-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual_inputs [hPre_usual_inputs : Cert.Pre_usual_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual_inputs [hPre_usual_inputs : Cert.Pre_usual_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_usual_inputs [hKernelIdeal : Cert.KernelIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_usual_inputs [hReferenceIdeal : Cert.ReferenceIdeal.Facts] [hPre_usual_inputs : Cert.Pre_usual_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_usual_inputs [hKernelIdeal : Cert.KernelIdeal.Facts] [hReferenceIdeal : Cert.ReferenceIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_usual_inputs : Cert.Pre_usual_inputs.Facts),
    quiescent_Kernel (hKernel := hKernel)
    ∧ quiescent_KernelIdeal (hKernelIdeal := hKernelIdeal)
    ∧ quiescent_KernelIdeal_pre_usual_inputs (hKernelIdeal := hKernelIdeal) (hPre_usual_inputs := hPre_usual_inputs)
    ∧ quiescent_ReferenceIdeal (hReferenceIdeal := hReferenceIdeal)
    ∧ quiescent_ReferenceIdeal_pre_usual_inputs (hReferenceIdeal := hReferenceIdeal) (hPre_usual_inputs := hPre_usual_inputs)
    ∧ preserves_Kernel_KernelIdeal
    ∧ algebraic_KernelIdeal_ReferenceIdeal_pre_usual_inputs (hKernelIdeal := hKernelIdeal) (hReferenceIdeal := hReferenceIdeal) (hPre_usual_inputs := hPre_usual_inputs)
-- ==== Pre_usual_inputs.lean ====
abbrev S2x2x4x2048x128 : Shape := ⟨5, ![2, 2, 4, 2048, 128]⟩
abbrev S2048x128 : Shape := ⟨2, ![2048, 128]⟩
abbrev S2 : Shape := ⟨1, ![2]⟩
abbrev S2x2048x2048 : Shape := ⟨3, ![2, 2048, 2048]⟩
abbrev S2048x2048 : Shape := ⟨2, ![2048, 2048]⟩
abbrev S512x2048 : Shape := ⟨2, ![512, 2048]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg5 : FVec F S512x2048 .f32) (main_v12 : IVec S_ 1) (main_v15 : IVec S2048x2048 1) (main_c_5 : IVec S_ 1) : IVec S_ 1 :=
  let main_v16 : IVec S_ 1 := (fun x v => Host.reduce IntOp.andi x v reducesTo_S2048x2048_S_d0_1 h_S_) main_v15 main_c_5
  let main_v17 : IVec S_ 1 := andi main_v12 main_v16
  let main_v18 : FVec F S512x2048 .f32 := Host.absf main_arg5
  let main_cst_6 : FVec F S_ .f32 := constant S_ .f32 0x7F800000#32
  let main_v19 : FVec F S512x2048 .f32 := broadcastInDim S512x2048 ![] bcast_S_S512x2048 main_cst_6
  let main_v20 : IVec S512x2048 1 := cmpf .olt main_v18 main_v19
  let main_c_7 : IVec S_ 1 := constantI S_ 1 1#1
  let main_v21 : IVec S_ 1 := (fun x v => Host.reduce IntOp.andi x v reducesTo_S512x2048_S_d0_1 h_S_) main_v20 main_c_7
  let main_v22 : IVec S_ 1 := andi main_v17 main_v21
  main_v22

def fn {F : FTy → Type} [FloatOps F] (main_arg0 : FVec F S2x2x4x2048x128 .f32) (main_arg1 : FVec F S2048x128 .f32) (main_arg2 : IVec S2 32) (main_arg3 : FVec F S2x2048x2048 .f32) (main_arg4 : FVec F S2048x2048 .f32) (main_arg5 : FVec F S512x2048 .f32) (main_arg6 : FVec F S512x2048 .f32) (main_arg7 : FVec F S2048x2048 .f32) : IVec S_ 1 :=
  let main_c : IVec S_ 32 := constantI S_ 32 0#32
  let main_v0 : IVec S2 32 := broadcastInDim S2 ![] bcast_S_S2 main_c
  let main_v1 : IVec S2 1 := cmpi .eq main_arg2 main_v0
  let main_c_0 : IVec S_ 1 := constantI S_ 1 1#1
  let main_v2 : IVec S_ 1 := (fun x v => Host.reduce IntOp.andi x v reducesTo_S2_S_d0 h_S_) main_v1 main_c_0
  let main_v3 : FVec F S2048x128 .f32 := Host.absf main_arg1
  let main_cst : FVec F S_ .f32 := constant S_ .f32 0x7F800000#32
  let main_v4 : FVec F S2048x128 .f32 := broadcastInDim S2048x128 ![] bcast_S_S2048x128 main_cst
  let main_v5 : IVec S2048x128 1 := cmpf .olt main_v3 main_v4
  let main_c_1 : IVec S_ 1 := constantI S_ 1 1#1
  let main_v6 : IVec S_ 1 := (fun x v => Host.reduce IntOp.andi x v reducesTo_S2048x128_S_d0_1 h_S_) main_v5 main_c_1
  let main_v7 : IVec S_ 1 := andi main_v2 main_v6
  let main_v8 : FVec F S2x2048x2048 .f32 := Host.absf main_arg3
  let main_cst_2 : FVec F S_ .f32 := constant S_ .f32 0x7F800000#32
  let main_v9 : FVec F S2x2048x2048 .f32 := broadcastInDim S2x2048x2048 ![] bcast_S_S2x2048x2048 main_cst_2
  let main_v10 : IVec S2x2048x2048 1 := cmpf .olt main_v8 main_v9
  let main_c_3 : IVec S_ 1 := constantI S_ 1 1#1
  let main_v11 : IVec S_ 1 := (fun x v => Host.reduce IntOp.andi x v reducesTo_S2x2048x2048_S_d0_1_2 h_S_) main_v10 main_c_3
  let main_v12 : IVec S_ 1 := andi main_v7 main_v11
  let main_v13 : FVec F S2048x2048 .f32 := Host.absf main_arg4
  let main_cst_4 : FVec F S_ .f32 := constant S_ .f32 0x7F800000#32
  let main_v14 : FVec F S2048x2048 .f32 := broadcastInDim S2048x2048 ![] bcast_S_S2048x2048 main_cst_4
  let main_v15 : IVec S2048x2048 1 := cmpf .olt main_v13 main_v14
  let main_c_5 : IVec S_ 1 := constantI S_ 1 1#1
  fn_part1 (F := F) main_arg5 main_v12 main_v15 main_c_5
-- ==== Kernel.lean ====
abbrev S2x2x4x2048x128 : Shape := ⟨5, ![2, 2, 4, 2048, 128]⟩
abbrev S2048x128 : Shape := ⟨2, ![2048, 128]⟩
abbrev S2 : Shape := ⟨1, ![2]⟩
abbrev S2x2048x2048 : Shape := ⟨3, ![2, 2048, 2048]⟩
abbrev S2048x2048 : Shape := ⟨2, ![2048, 2048]⟩
abbrev S512x2048 : Shape := ⟨2, ![512, 2048]⟩
abbrev S4096x2048 : Shape := ⟨2, ![4096, 2048]⟩
abbrev S3072x2048 : Shape := ⟨2, ![3072, 2048]⟩
abbrev S2048x3072 : Shape := ⟨2, ![2048, 3072]⟩
abbrev S2048x64 : Shape := ⟨2, ![2048, 64]⟩
abbrev S1x2048x1x128 : Shape := ⟨4, ![1, 2048, 1, 128]⟩
abbrev S1x2048x8x128 : Shape := ⟨4, ![1, 2048, 8, 128]⟩
abbrev S2048x1024 : Shape := ⟨2, ![2048, 1024]⟩
abbrev S4096x3072 : Shape := ⟨2, ![4096, 3072]⟩
abbrev S1024x2048 : Shape := ⟨2, ![1024, 2048]⟩
abbrev S1024x1024 : Shape := ⟨2, ![1024, 1024]⟩
abbrev S1024x960 : Shape := ⟨2, ![1024, 960]⟩
abbrev S1024x64 : Shape := ⟨2, ![1024, 64]⟩
abbrev S2048x512 : Shape := ⟨2, ![2048, 512]⟩
abbrev S1024x128 : Shape := ⟨2, ![1024, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 30
  | .vmem => 24
  | .smem => 0
  | _ => 0

abbrev bufTy : (tb : Table) → Fin (tcTables nBuf tb) → BufTy
  | .hbm, ⟨0, _⟩ => ⟨S2x2x4x2048x128, .f32⟩
  | .hbm, ⟨1, _⟩ => ⟨S2048x128, .f32⟩
  | .hbm, ⟨2, _⟩ => ⟨S2, .i32⟩
  | .hbm, ⟨3, _⟩ => ⟨S2x2048x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2048x2048, .f32⟩
  | .hbm, ⟨8, _⟩ => ⟨S4096x2048, .f32⟩
  | .hbm, ⟨9, _⟩ => ⟨S4096x2048, .bf16⟩
  | .hbm, ⟨10, _⟩ => ⟨S3072x2048, .f32⟩
  | .hbm, ⟨11, _⟩ => ⟨S2048x3072, .f32⟩
  | .hbm, ⟨12, _⟩ => ⟨S2048x3072, .bf16⟩
  | .hbm, ⟨13, _⟩ => ⟨S2048x64, .f32⟩
  | .hbm, ⟨14, _⟩ => ⟨S2048x64, .f32⟩
  | .hbm, ⟨15, _⟩ => ⟨S2048x128, .f32⟩
  | .hbm, ⟨16, _⟩ => ⟨S1x2048x1x128, .f32⟩
  | .hbm, ⟨17, _⟩ => ⟨S1x2048x8x128, .f32⟩
  | .hbm, ⟨18, _⟩ => ⟨S2048x1024, .f32⟩
  | .hbm, ⟨19, _⟩ => ⟨S2048x64, .f32⟩
  | .hbm, ⟨20, _⟩ => ⟨S2048x128, .f32⟩
  | .hbm, ⟨21, _⟩ => ⟨S1x2048x1x128, .f32⟩
  | .hbm, ⟨22, _⟩ => ⟨S1x2048x8x128, .f32⟩
  | .hbm, ⟨23, _⟩ => ⟨S2048x1024, .f32⟩
  | .hbm, ⟨24, _⟩ => ⟨S4096x3072, .bf16⟩
  | .hbm, ⟨25, _⟩ => ⟨S4096x2048, .bf16⟩
  | .hbm, ⟨26, _⟩ => ⟨S2048x2048, .f32⟩
  | .hbm, ⟨27, _⟩ => ⟨S2048x2048, .bf16⟩
  | .hbm, ⟨28, _⟩ => ⟨S4096x2048, .f32⟩
  | .hbm, ⟨29, _⟩ => ⟨S2x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S2048x512, .bf16⟩
  | .local _ .vmem, ⟨11, _⟩ => ⟨S2048x512, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x512, .bf16⟩
  | .local _ .vmem, ⟨17, _⟩ => ⟨S2048x512, .bf16⟩
  | .local _ .vmem, ⟨18, _⟩ => ⟨S1024x2048, .bf16⟩
  | .local _ .vmem, ⟨19, _⟩ => ⟨S1024x2048, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .f32⟩
  | .local _ .vmem, ⟨23, _⟩ => ⟨S1024x1024, .f32⟩
  | _, _ => ⟨S2x2x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32_3 : BitVec 32 := 2#32
  let v8 : BitVec 1 := Scalar.cmpi .eq arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S2x2x4x2048x128 : Shape := ⟨5, ![2, 2, 4, 2048, 128]⟩
abbrev S2048x128 : Shape := ⟨2, ![2048, 128]⟩
abbrev S2 : Shape := ⟨1, ![2]⟩
abbrev S2x2048x2048 : Shape := ⟨3, ![2, 2048, 2048]⟩
abbrev S2048x2048 : Shape := ⟨2, ![2048, 2048]⟩
abbrev S512x2048 : Shape := ⟨2, ![512, 2048]⟩
abbrev S2x2048x16x128 : Shape := ⟨4, ![2, 2048, 16, 128]⟩
abbrev S2x16x2048x128 : Shape := ⟨4, ![2, 16, 2048, 128]⟩
abbrev S2048x512 : Shape := ⟨2, ![2048, 512]⟩
abbrev S2x2048x512 : Shape := ⟨3, ![2, 2048, 512]⟩
abbrev S2x2048x4x128 : Shape := ⟨4, ![2, 2048, 4, 128]⟩
abbrev S2x4x2048x128 : Shape := ⟨4, ![2, 4, 2048, 128]⟩
abbrev S2x1 : Shape := ⟨2, ![2, 1]⟩
abbrev S2048 : Shape := ⟨1, ![2048]⟩
abbrev S1x2048 : Shape := ⟨2, ![1, 2048]⟩
abbrev S2x2048 : Shape := ⟨2, ![2, 2048]⟩
abbrev S_ : Shape := ⟨0, ![]⟩
abbrev S2x2048x1 : Shape := ⟨3, ![2, 2048, 1]⟩
abbrev S1 : Shape := ⟨1, ![1]⟩
abbrev S1x1x1 : Shape := ⟨3, ![1, 1, 1]⟩
abbrev S2x2048x128 : Shape := ⟨3, ![2, 2048, 128]⟩
abbrev S2x2048x64 : Shape := ⟨3, ![2, 2048, 64]⟩
abbrev S2x1x2048x64 : Shape := ⟨4, ![2, 1, 2048, 64]⟩
abbrev S2x4x2048x64 : Shape := ⟨4, ![2, 4, 2048, 64]⟩
abbrev S1x2x4x2048x128 : Shape := ⟨5, ![1, 2, 4, 2048, 128]⟩
abbrev S2x4x4x2048x128 : Shape := ⟨5, ![2, 4, 4, 2048, 128]⟩
abbrev S2x16x2048x2048 : Shape := ⟨4, ![2, 16, 2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 167
  | .vmem => 0
  | .smem => 0
  | _ => 0

abbrev hbmTy0_0 (i : Nat) : BufTy := match i % 128 with
  | 0 => ⟨S2x2x4x2048x128, .f32⟩
  | 1 => ⟨S2048x128, .f32⟩
  | 2 => ⟨S2, .i32⟩
  | 3 => ⟨S2x2048x2048, .f32⟩
  | 4 => ⟨S2048x2048, .f32⟩
  | 5 => ⟨S512x2048, .f32⟩
  | 6 => ⟨S512x2048, .f32⟩
  | 7 => ⟨S2048x2048, .f32⟩
  | 8 => ⟨S2048x2048, .f32⟩
  | 9 => ⟨S2x2048x2048, .f32⟩
  | 10 => ⟨S2x2048x16x128, .f32⟩
  | 11 => ⟨S2x16x2048x128, .f32⟩
  | 12 => ⟨S2048x512, .f32⟩
  | 13 => ⟨S2x2048x512, .f32⟩
  | 14 => ⟨S2x2048x4x128, .f32⟩
  | 15 => ⟨S2x4x2048x128, .f32⟩
  | 16 => ⟨S2048x512, .f32⟩
  | 17 => ⟨S2x2048x512, .f32⟩
  | 18 => ⟨S2x2048x4x128, .f32⟩
  | 19 => ⟨S2x4x2048x128, .f32⟩
  | 20 => ⟨S2x1, .i32⟩
  | 21 => ⟨S2048, .i32⟩
  | 22 => ⟨S1x2048, .i32⟩
  | 23 => ⟨S2x2048, .i32⟩
  | 24 => ⟨S2x2048, .i32⟩
  | 25 => ⟨S2x2048, .i32⟩
  | 26 => ⟨S_, .i32⟩
  | 27 => ⟨S2x2048, .i32⟩
  | 28 => ⟨S2x2048, .i1⟩
  | 29 => ⟨S_, .i32⟩
  | 30 => ⟨S2x2048, .i32⟩
  | 31 => ⟨S2x2048, .i32⟩
  | 32 => ⟨S2x2048, .i32⟩
  | 33 => ⟨S2x2048x1, .i32⟩
  | 34 => ⟨S1, .i32⟩
  | 35 => ⟨S_, .i32⟩
  | 36 => ⟨S2x2048x1, .i32⟩
  | 37 => ⟨S2x2048x1, .i1⟩
  | 38 => ⟨S1x1x1, .i32⟩
  | 39 => ⟨S2x2048x1, .i32⟩
  | 40 => ⟨S2x2048x1, .i1⟩
  | 41 => ⟨S2x2048x1, .i1⟩
  | 42 => ⟨S_, .i1⟩
  | 43 => ⟨S2x2048, .i1⟩
  | 44 => ⟨S2x2048x128, .f32⟩
  | 45 => ⟨S2x2048x128, .i1⟩
  | 46 => ⟨S_, .f32⟩
  | 47 => ⟨S2x2048x128, .f32⟩
  | 48 => ⟨S2x2048x128, .f32⟩
  | 49 => ⟨S2x2048x64, .f32⟩
  | 50 => ⟨S2x1x2048x64, .f32⟩
  | 51 => ⟨S2x2048x64, .f32⟩
  | 52 => ⟨S2x1x2048x64, .f32⟩
  | 53 => ⟨S2x4x2048x64, .f32⟩
  | 54 => ⟨S2x4x2048x64, .f32⟩
  | 55 => ⟨S2x4x2048x64, .f32⟩
  | 56 => ⟨S2x4x2048x64, .f32⟩
  | 57 => ⟨S2x4x2048x64, .f32⟩
  | 58 => ⟨S2x4x2048x64, .f32⟩
  | 59 => ⟨S2x4x2048x64, .f32⟩
  | 60 => ⟨S2x4x2048x64, .f32⟩
  | 61 => ⟨S2x4x2048x64, .f32⟩
  | 62 => ⟨S2x4x2048x64, .f32⟩
  | 63 => ⟨S2x4x2048x64, .f32⟩
  | 64 => ⟨S2x4x2048x64, .f32⟩
  | 65 => ⟨S2x4x2048x128, .f32⟩
  | 66 => ⟨S2x1, .i32⟩
  | 67 => ⟨S2048, .i32⟩
  | 68 => ⟨S1x2048, .i32⟩
  | 69 => ⟨S2x2048, .i32⟩
  | 70 => ⟨S2x2048, .i32⟩
  | 71 => ⟨S2x2048, .i32⟩
  | 72 => ⟨S_, .i32⟩
  | 73 => ⟨S2x2048, .i32⟩
  | 74 => ⟨S2x2048, .i1⟩
  | 75 => ⟨S_, .i32⟩
  | 76 => ⟨S2x2048, .i32⟩
  | 77 => ⟨S2x2048, .i32⟩
  | 78 => ⟨S2x2048, .i32⟩
  | 79 => ⟨S2x2048x1, .i32⟩
  | 80 => ⟨S1, .i32⟩
  | 81 => ⟨S_, .i32⟩
  | 82 => ⟨S2x2048x1, .i32⟩
  | 83 => ⟨S2x2048x1, .i1⟩
  | 84 => ⟨S1x1x1, .i32⟩
  | 85 => ⟨S2x2048x1, .i32⟩
  | 86 => ⟨S2x2048x1, .i1⟩
  | 87 => ⟨S2x2048x1, .i1⟩
  | 88 => ⟨S_, .i1⟩
  | 89 => ⟨S2x2048, .i1⟩
  | 90 => ⟨S2x2048x128, .f32⟩
  | 91 => ⟨S2x2048x128, .i1⟩
  | 92 => ⟨S_, .f32⟩
  | 93 => ⟨S2x2048x128, .f32⟩
  | 94 => ⟨S2x2048x128, .f32⟩
  | 95 => ⟨S2x2048x64, .f32⟩
  | 96 => ⟨S2x1x2048x64, .f32⟩
  | 97 => ⟨S2x2048x64, .f32⟩
  | 98 => ⟨S2x1x2048x64, .f32⟩
  | 99 => ⟨S2x4x2048x64, .f32⟩
  | 100 => ⟨S2x4x2048x64, .f32⟩
  | 101 => ⟨S2x4x2048x64, .f32⟩
  | 102 => ⟨S2x4x2048x64, .f32⟩
  | 103 => ⟨S2x4x2048x64, .f32⟩
  | 104 => ⟨S2x4x2048x64, .f32⟩
  | 105 => ⟨S2x4x2048x64, .f32⟩
  | 106 => ⟨S2x4x2048x64, .f32⟩
  | 107 => ⟨S2x4x2048x64, .f32⟩
  | 108 => ⟨S2x4x2048x64, .f32⟩
  | 109 => ⟨S2x4x2048x64, .f32⟩
  | 110 => ⟨S2x4x2048x64, .f32⟩
  | 111 => ⟨S2x4x2048x128, .f32⟩
  | 112 => ⟨S_, .i32⟩
  | 113 => ⟨S1, .i32⟩
  | 114 => ⟨S2x2x4x2048x128, .f32⟩
  | 115 => ⟨S_, .i32⟩
  | 116 => ⟨S1, .i32⟩
  | 117 => ⟨S2x2x4x2048x128, .f32⟩
  | 118 => ⟨S1x2x4x2048x128, .f32⟩
  | 119 => ⟨S2x4x2048x128, .f32⟩
  | 120 => ⟨S1x2x4x2048x128, .f32⟩
  | 121 => ⟨S2x4x2048x128, .f32⟩
  | 122 => ⟨S2x4x4x2048x128, .f32⟩
  | 123 => ⟨S2x16x2048x128, .f32⟩
  | 124 => ⟨S2x4x4x2048x128, .f32⟩
  | 125 => ⟨S2x16x2048x128, .f32⟩
  | 126 => ⟨S2x16x2048x2048, .f32⟩
  | 127 => ⟨S_, .f32⟩
  | _ => ⟨S2x2x4x2048x128, .f32⟩

abbrev hbmTy0_1 (i : Nat) : BufTy := match i % 128 with
  | 0 => ⟨S_, .f32⟩
  | 1 => ⟨S2x16x2048x2048, .f32⟩
  | 2 => ⟨S2x16x2048x2048, .f32⟩
  | 3 => ⟨S_, .i1⟩
  | 4 => ⟨S2048x2048, .i1⟩
  | 5 => ⟨S2048x2048, .i32⟩
  | 6 => ⟨S_, .i32⟩
  | 7 => ⟨S2048x2048, .i32⟩
  | 8 => ⟨S2048x2048, .i32⟩
  | 9 => ⟨S2048x2048, .i32⟩
  | 10 => ⟨S2048x2048, .i1⟩
  | 11 => ⟨S_, .i1⟩
  | 12 => ⟨S2048x2048, .i1⟩
  | 13 => ⟨S2048x2048, .i1⟩
  | 14 => ⟨S1x1x2048x2048, .i1⟩
  | 15 => ⟨S_, .f32⟩
  | 16 => ⟨S_, .f32⟩
  | 17 => ⟨S2x16x2048x2048, .i1⟩
  | 18 => ⟨S2x16x2048x2048, .f32⟩
  | 19 => ⟨S2x16x2048x2048, .f32⟩
  | 20 => ⟨S_, .f32⟩
  | 21 => ⟨S2x16x2048, .f32⟩
  | 22 => ⟨S_, .f32⟩
  | 23 => ⟨S2x16x2048, .f32⟩
  | 24 => ⟨S2x16x2048, .f32⟩
  | 25 => ⟨S2x16x2048x1, .f32⟩
  | 26 => ⟨S2x16x2048x2048, .f32⟩
  | 27 => ⟨S2x16x2048x2048, .f32⟩
  | 28 => ⟨S2x16x2048x2048, .f32⟩
  | 29 => ⟨S_, .f32⟩
  | 30 => ⟨S2x16x2048, .f32⟩
  | 31 => ⟨S2x16x2048x1, .f32⟩
  | 32 => ⟨S2x16x2048x2048, .f32⟩
  | 33 => ⟨S2x16x2048x2048, .f32⟩
  | 34 => ⟨S2x16x2048x128, .f32⟩
  | 35 => ⟨S2x2048x16x128, .f32⟩
  | 36 => ⟨S2x2048x2048, .f32⟩
  | 37 => ⟨S2048x2048, .f32⟩
  | 38 => ⟨S2x2048x2048, .f32⟩
  | _ => ⟨S2x2x4x2048x128, .f32⟩

abbrev hbmTy (i : Nat) : BufTy := match i / 128 with
  | 0 => hbmTy0_0 i
  | 1 => hbmTy0_1 i
  | _ => ⟨S2x2x4x2048x128, .f32⟩

abbrev bufTy : (tb : Table) → Fin (tcTables nBuf tb) → BufTy
  | .hbm, ⟨i, _⟩ => hbmTy i
  | _, _ => ⟨S2x2x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_call1_cst : Ref sig .tc := ⟨.hbm, 92, rfl⟩
abbrev main_call1_v15 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_c : Ref sig .tc := ⟨.hbm, 112, rfl⟩
abbrev main_v60 : Ref sig .tc := ⟨.hbm, 113, rfl⟩
abbrev main_v61 : Ref sig .tc := ⟨.hbm, 114, rfl⟩
abbrev main_c_0 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_1 : Ref sig .tc := ⟨.hbm, 131, rfl⟩
abbrev main_v76 : Ref sig .tc := ⟨.hbm, 132, rfl⟩
abbrev main_call2_v0 : Ref sig .tc := ⟨.hbm, 133, rfl⟩
abbrev main_call2_c : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_c_0 : Ref sig .tc := ⟨.hbm, 139, rfl⟩
abbrev main_call2_v5 : Ref sig .tc := ⟨.hbm, 140, rfl⟩
abbrev main_v77 : Ref sig .tc := ⟨.hbm, 141, rfl⟩
abbrev main_v78 : Ref sig .tc := ⟨.hbm, 142, rfl⟩
abbrev main_cst_2 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v79 : Ref sig .tc := ⟨.hbm, 147, rfl⟩
abbrev main_cst_3 : Ref sig .tc := ⟨.hbm, 148, rfl⟩
abbrev main_v80 : Ref sig .tc := ⟨.hbm, 149, rfl⟩
abbrev main_cst_4 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_cst_5 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩

abbrev nD : Nat := 1
abbrev τ : Topo := Topo.v7x

variable {F : FTy → Type} [FloatOps F]
-- ==== Proof.Model.lean ====
/- The mathematics of the claim in extended reals, away from every program: the softmax average of one row of
   scores, the causal mask, the rotation of one head's row, and the laws that join the kernel's and the
   reference's ways of writing them. -/
module

public import Idealize.ShloMosaic.PureOps.Ideal

@[expose] public section

noncomputable section

namespace Cert.Model

open Idealize.ShloMosaic

/-- The greatest of a row's entries, `⊥` for an empty row. -/
def top {n : ℕ} (s : Fin n → EReal) : EReal := Finset.univ.fold max ⊥ s

/-- The exponential weight of entry `j` of a row of scores, taken from the row's greatest entry. -/
def wt {n : ℕ} (s : Fin n → EReal) (j : Fin n) : EReal := Ideal.exp (s j - top s)

/-- The softmax average of `v` under the scores `s`: the weighted sum divided by the sum of the weights. -/
def att {n : ℕ} (s v : Fin n → EReal) : EReal := Ideal.div (∑ j, wt s j * v j) (∑ j, wt s j)

/-- A row of scores in which the query at position `i` sees the keys at positions up to `i`. -/
def causal {n : ℕ} (i : ℕ) (s : Fin n → EReal) (j : Fin n) : EReal := if j.val ≤ i then s j else ⊥

/-- One head's row `y` rotated by the angles whose cosines and sines are the two halves of `cs`. -/
def rope (y cs : Fin 128 → EReal) (d : Fin 128) : EReal :=
  if h : d.val < 64 then y d * cs d - y ⟨d.val + 64, by omega⟩ * cs ⟨d.val + 64, by omega⟩
  else y ⟨d.val - 64, by omega⟩ * cs d + y d * cs ⟨d.val - 64, by omega⟩

theorem top_eq_sup {n : ℕ} (s : Fin n → EReal) : top s = Finset.univ.sup s := rfl

theorem le_top {n : ℕ} (s : Fin n → EReal) (j : Fin n) : s j ≤ top s := by
  rw [top_eq_sup]; exact Finset.le_sup (Finset.mem_univ j)

/-- The greatest entry of a row in two pieces is the greater of the pieces' greatest entries. -/
theorem top_add {m n : ℕ} (s : Fin (m + n) → EReal) :
    top s = max (top fun j => s (Fin.castAdd n j)) (top fun j => s (Fin.natAdd m j)) := by
  simp only [top_eq_sup]
  apply le_antisymm
  · refine Finset.sup_le fun j _ => ?_
    induction j using Fin.addCases with
    | left j => exact le_max_of_le_left (Finset.le_sup (f := fun j => s (Fin.castAdd n j)) (Finset.mem_univ j))
    | right j => exact le_max_of_le_right (Finset.le_sup (f := fun j => s (Fin.natAdd m j)) (Finset.mem_univ j))
  · exact max_le (Finset.sup_le fun j _ => Finset.le_sup (f := s) (Finset.mem_univ _))
      (Finset.sup_le fun j _ => Finset.le_sup (f := s) (Finset.mem_univ _))

/-- The softmax average of a row in two pieces: one greatest entry, the sums added piece by piece. -/
theorem att_add {m n : ℕ} (s v : Fin (m + n) → EReal) :
    att s v = Ideal.div
      ((∑ j, Ideal.exp (s (Fin.castAdd n j)
          - max (top fun j => s (Fin.castAdd n j)) (top fun j => s (Fin.natAdd m j))) * v (Fin.castAdd n j))
        + ∑ j, Ideal.exp (s (Fin.natAdd m j)
          - max (top fun j => s (Fin.castAdd n j)) (top fun j => s (Fin.natAdd m j))) * v (Fin.natAdd m j))
      ((∑ j, Ideal.exp (s (Fin.castAdd n j)
          - max (top fun j => s (Fin.castAdd n j)) (top fun j => s (Fin.natAdd m j))))
        + ∑ j, Ideal.exp (s (Fin.natAdd m j)
          - max (top fun j => s (Fin.castAdd n j)) (top fun j => s (Fin.natAdd m j)))) := by
  simp only [att, wt, Fin.sum_univ_add, ← top_add]

/-- A masked tail of a row changes nothing: its weights are zero. -/
theorem att_masked_tail {m n : ℕ} (s v : Fin (m + n) → EReal) (h : ∀ j, s (Fin.natAdd m j) = ⊥) :
    att s v = att (fun j => s (Fin.castAdd n j)) (fun j => v (Fin.castAdd n j)) := by
  have ht : (top fun j : Fin n => s (Fin.natAdd m j)) = ⊥ := by
    rw [top_eq_sup]; exact (Finset.sup_congr rfl fun j _ => h j).trans (Finset.sup_bot _)
  rw [att_add, ht, max_bot_right]
  simp only [h, EReal.bot_sub, Ideal.exp_bot, zero_mul, Finset.sum_const_zero, add_zero]
  rfl

/-- A finite sum of extended reals times a real that is not negative. -/
theorem sum_mul_coe {ι : Type*} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

theorem exp_coe_pos (r : ℝ) : (0 : ℝ) < Real.exp r := Real.exp_pos r

/-- When the greatest score is a real number, the weights sum to a positive real. -/
theorem exists_sum_wt {n : ℕ} (s : Fin n → EReal) {M : ℝ} (hM : top s = (M : EReal)) :
    ∃ l : ℝ, 0 < l ∧ ∑ j, wt s j = (l : EReal) := by
  have hn : (Finset.univ : Finset (Fin n)).Nonempty := by
    by_contra hne
    rw [Finset.not_nonempty_iff_eq_empty] at hne
    rw [top, hne, Finset.fold_empty] at hM
    exact absurd hM (by simp)
  have hw : ∀ j, ∃ r : ℝ, 0 ≤ r ∧ wt s j = (r : EReal) ∧ (s j = top s → r = 1) := by
    intro j
    have hle := le_top s j
    rw [wt, hM] at *
    induction hs : s j with
    | bot => exact ⟨0, le_rfl, by simp, fun h => absurd h (by simp)⟩
    | top => rw [hs] at hle; exact absurd hle (by simp)
    | coe x =>
      refine ⟨Real.exp (x - M), (Real.exp_pos _).le, by rw [← EReal.coe_sub, Ideal.exp_coe], fun h => ?_⟩
      rw [EReal.coe_eq_coe_iff.mp h, sub_self, Real.exp_zero]
  choose r hr0 hr hr1 using hw
  refine ⟨∑ j, r j, ?_, ?_⟩
  · obtain ⟨j, -, hj⟩ := Finset.exists_mem_eq_sup Finset.univ hn s
    have : r j = 1 := hr1 j hj.symm
    exact Finset.sum_pos' (fun j _ => hr0 j) ⟨j, Finset.mem_univ j, by rw [this]; exact one_pos⟩
  · simp only [hr]
    exact (map_sum (⟨⟨Real.toEReal, EReal.coe_zero⟩, EReal.coe_add⟩ : ℝ →+ EReal) r Finset.univ).symm

/-- When the greatest score is a real number, normalising every weight before the average and dividing the
    weighted sum afterwards give the same. -/
theorem sum_div_wt {n : ℕ} (s v : Fin n → EReal) {M : ℝ} (hM : top s = (M : EReal)) :
    ∑ j, Ideal.div (wt s j) (∑ j, wt s j) * v j = att s v := by
  obtain ⟨l, hl, hsum⟩ := exists_sum_wt s hM
  rw [att, hsum, Ideal.div_coe hl.ne', sum_mul_coe _ _ (by positivity)]
  refine Finset.sum_congr rfl fun j _ => ?_
  rw [Ideal.div_coe hl.ne']
  exact mul_right_comm _ _ _

/-- The greatest entry of a row whose entry `i` is a real number and whose others are reals or `⊥` is a real. -/
theorem exists_top {n : ℕ} (s : Fin n → EReal) (i : Fin n) (hi : s i ≠ ⊥) (h : ∀ j, s j ≠ ⊤) :
    ∃ M : ℝ, top s = (M : EReal) := by
  have h1 : top s ≠ ⊥ := fun e => hi (le_bot_iff.mp (e ▸ le_top s i))
  have h2 : top s ≠ ⊤ := by
    obtain ⟨j, -, hj⟩ := Finset.exists_mem_eq_sup Finset.univ ⟨i, Finset.mem_univ i⟩ s
    rw [top_eq_sup, hj]; exact h j
  exact ⟨(top s).toReal, (EReal.coe_toReal h2 h1).symm⟩

/-- The kernel's way of writing the rotation: the row times the doubled cosines plus the row with its halves
    exchanged times the signed sines. -/
theorem rope_eq (y cs : Fin 128 → EReal) (d : Fin 128) :
    y d * (if h : d.val < 64 then cs d else cs ⟨d.val - 64, by omega⟩)
      + (if h : d.val < 64 then y ⟨d.val + 64, by omega⟩ else y ⟨d.val - 64, by omega⟩)
        * (if h : d.val < 64 then -cs ⟨d.val + 64, by omega⟩ else cs d) = rope y cs d := by
  unfold rope
  by_cases h : d.val < 64
  · simp only [dif_pos h, sub_eq_add_neg, mul_neg]
  · simp only [dif_neg h]; exact add_comm _ _

end Cert.Model

end
-- ==== Proof.Consts.lean ====
/- The constants of the two programs in extended reals: the kernel's named mask value and scale, the infinities
   the maxima start from, and the reference's divisor. -/
module

public import proofs.«01_k».proof.Defs
public import Idealize.ShloMosaic.Lib.Pipeline.ValueKit

@[expose] public section

noncomputable section

namespace Cert.Consts

open Idealize.ShloMosaic

/-- The kernel's mask value is `⊥`. -/
theorem mask : Named.named (F := Ideal) Cert.KernelIdeal.κ "mask" (φ := .f32) 0xF149F2CA#32 = (⊥ : EReal) :=
  IdealRules.named_const.ideal_named_scalar _ _ _ _ rfl

/-- The kernel's scale is the real `(√128)⁻¹`. -/
theorem scale : Named.named (F := Ideal) Cert.KernelIdeal.κ "scale" (φ := .f32) 0x3DB504F3#32
    = (((Real.sqrt 128)⁻¹ : ℝ) : EReal) :=
  IdealRules.named_const.ideal_named_scalar _ _ _ _ rfl

/-- The word of negative infinity denotes `⊥`. -/
theorem negInf : Ideal.ofBits FTy.f32 0xFF800000#32 = (⊥ : EReal) := by
  simp [Ideal.ofBits, Ideal.ieee]

/-- The word of positive infinity denotes `⊤`. -/
theorem posInf : Ideal.ofBits FTy.f32 0x7F800000#32 = (⊤ : EReal) := by
  simp [Ideal.ofBits, Ideal.ieee]

/-- The word of `128.0` denotes the real `128`. -/
theorem f128 : Ideal.ofBits FTy.f32 0x43000000#32 = ((128 : ℝ) : EReal) := by
  simp [Ideal.ofBits, Ideal.ieee]
  rw [← EReal.coe_mul]
  norm_num

/-- Both named constants are what the certificate's table gives them. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

end Cert.Consts

end
-- ==== Proof.PayMul.lean ====
/- What one block of the two matrix kernels holds: products of rows and columns, scaled or rotated by the first. -/
module

public import proofs.«01_k».proof.Proof.Gen.KernelIdeal.Skeleton
public import proofs.«01_k».proof.Proof.Model
public import proofs.«01_k».proof.Proof.Consts
public import Idealize.ShloMosaic.Lib.WordCmp

@[expose] public section

set_option maxRecDepth 16384

noncomputable section

namespace Cert.KernelIdeal.PayMul

open Idealize.ShloMosaic Idealize.ShloMosaic.TcCoe Idealize.SL.Sem Cert.KernelIdeal Cert.KernelIdeal.Gen Cert.Model

/-- Row `r` of `x` times column `c` of `w`. -/
def dot {a b : ℕ} {φ ψ : FTy} (x : FVec Ideal ⟨2, ![a, 2048]⟩ φ) (w : FVec Ideal ⟨2, ![2048, b]⟩ ψ) (r : Fin a) (c : Fin b) :
    EReal := ∑ j : Fin 2048, x (ix2 r j) * w (ix2 j c)

/-- The first two thirds of the columns: the product times the scale. -/
theorem scaled_apply (x : FVec Ideal S1024x2048 .bf16) (w : FVec Ideal S2048x1024 .bf16) (r c : Fin 1024) :
    k0_pay2 (F := Ideal) x w (ix2 r c) = dot x w r c * (((Real.sqrt 128)⁻¹ : ℝ) : EReal) := by
  pointwise [k0_pay2, k0_pay1]
  simp only [Consts.scale]
  rfl

/-- The last kernel: the product. -/
theorem prod_apply (x : FVec Ideal S1024x2048 .bf16) (w : FVec Ideal S2048x1024 .bf16) (r c : Fin 1024) :
    k2_pay1 (F := Ideal) x w (ix2 r c) = dot x w r c := by
  pointwise [k2_pay1]
  rfl

/-- The column within its head is below 64 exactly when the kernel's word for it is. -/
theorem half : ∀ c : Fin 1024, (IntOp.cmpi CmpIPredicate.slt
            (Scalar.select
              (IntOp.andi
                (IntOp.xori
                  (IntOp.cmpi CmpIPredicate.slt
                    (IntOp.remsi ArithUnit.vector (BitVec.ofNat 32 ↑c)
                      (Scalar.select (Scalar.cmpi CmpIPredicate.eq 128#32 0#32) 1#32 128#32))
                    0#32)
                  (Scalar.cmpi CmpIPredicate.slt (Scalar.select (Scalar.cmpi CmpIPredicate.eq 128#32 0#32) 1#32 128#32)
                    0#32))
                (IntOp.cmpi CmpIPredicate.ne
                  (IntOp.remsi ArithUnit.vector (BitVec.ofNat 32 ↑c)
                    (Scalar.select (Scalar.cmpi CmpIPredicate.eq 128#32 0#32) 1#32 128#32))
                  0#32))
              (IntOp.addi
                (IntOp.remsi ArithUnit.vector (BitVec.ofNat 32 ↑c)
                  (Scalar.select (Scalar.cmpi CmpIPredicate.eq 128#32 0#32) 1#32 128#32))
                (Scalar.select (Scalar.cmpi CmpIPredicate.eq 128#32 0#32) 1#32 128#32))
              (IntOp.remsi ArithUnit.vector (BitVec.ofNat 32 ↑c)
                (Scalar.select (Scalar.cmpi CmpIPredicate.eq 128#32 0#32) 1#32 128#32)))
            64#32) = BitVec.ofBool (decide (c.val % 128 < 64)) := by
  decide +kernel

/-- The last third of the columns: the product times one table plus the product of the column half a head away
    times the other. -/
theorem rotated_apply (x : FVec Ideal S1024x2048 .bf16) (w : FVec Ideal S2048x1024 .bf16)
    (a b : FVec Ideal S1024x1024 .f32) (r c : Fin 1024) :
    k0_pay3 (F := Ideal) x w a b (ix2 r c) = dot x w r c * a (ix2 r c)
      + (if h : c.val % 128 < 64 then dot x w r ⟨c.val + 64, by omega⟩ else dot x w r ⟨c.val - 64, by omega⟩)
        * b (ix2 r c) := by
  pointwise [k0_pay3, k0_pay1]
  rw [half, WordCmp.select_decide]
  by_cases h : c.val % 128 < 64
  · have h' : c.val < 960 := by omega
    simp only [if_pos h, dif_pos h, dif_pos h', dot, Nat.add_comm 64]
  · have h' : ¬ c.val < 64 := by omega
    simp only [if_neg h, dif_neg h, dif_neg h', dot]

end Cert.KernelIdeal.PayMul

end
-- ==== Proof.Region0.lean ====
/- The first kernel's array: scaled queries, rotated keys and rotated values side by side. -/
module

public import proofs.«01_k».proof.Proof.Gen.KernelIdeal.Frame
public import proofs.«01_k».proof.Proof.PayMul
public import Idealize.ShloMosaic.Lib.Pipeline.ValueKit

@[expose] public section

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)
open Cert.KernelIdeal.PayMul

variable (V : (c : Dev nD) → (b : Ref sig .tc) → Buf (Elt Ideal) ((c : Thread nD τ).loc b))

/-- Where every window's block sits at a grid point. -/
theorem idx : ∀ t : Fin cfg0.N, win0_0.index t = ![t.val / 3, 0] ∧ win0_1.index t = ![0, t.val % 3]
    ∧ win0_2.index t = ![t.val / 3 % 2, 0] ∧ win0_3.index t = ![t.val / 3 % 2, 0]
    ∧ win0_4.index t = ![t.val / 3, t.val % 3] ∧ t.val / 3 < 4 ∧ t.val % 3 < 3 :=
  (by decide +kernel : ∀ t : Fin grid0.N, _)

/-- One entry: below column 2048 the scaled product, past it the product rotated within its head of 128 columns. -/
def qkvAt (X : FVec Ideal S4096x2048 .bf16) (W : FVec Ideal S2048x3072 .bf16) (A B : FVec Ideal S2048x1024 .f32)
    (r : Fin 4096) (c : Fin 3072) : EReal :=
  if h : c.val < 2048 then dot X W r c * (((Real.sqrt 128)⁻¹ : ℝ) : EReal)
  else dot X W r c * A (ix2 ⟨r.val % 2048, by omega⟩ ⟨c.val - 2048, by omega⟩)
    + (if h : c.val % 128 < 64 then dot X W r ⟨c.val + 64, by omega⟩ else dot X W r ⟨c.val - 64, by omega⟩)
      * B (ix2 ⟨r.val % 2048, by omega⟩ ⟨c.val - 2048, by omega⟩)

/-- The array of all entries. -/
def qkv (X : FVec Ideal S4096x2048 .bf16) (W : FVec Ideal S2048x3072 .bf16) (A B : FVec Ideal S2048x1024 .f32) :
    FVec Ideal S4096x3072 .bf16 := fun i => qkvAt X W A B (i 0) (i 1)

section
variable (X : FVec Ideal S4096x2048 .bf16) (W : FVec Ideal S2048x3072 .bf16) (A B : FVec Ideal S2048x1024 .f32)
  (r : Fin 4096) (c : Fin 3072)

/-- An entry among the queries. -/
theorem qkvAt_query (h : c.val < 2048) : qkvAt X W A B r c = dot X W r c * (((Real.sqrt 128)⁻¹ : ℝ) : EReal) :=
  dif_pos h

/-- An entry in the first half of a head of keys or values. -/
theorem qkvAt_first (h : ¬ c.val < 2048) (h' : c.val % 128 < 64) : qkvAt X W A B r c
    = dot X W r c * A (ix2 ⟨r.val % 2048, by omega⟩ ⟨c.val - 2048, by omega⟩)
      + dot X W r ⟨c.val + 64, by omega⟩ * B (ix2 ⟨r.val % 2048, by omega⟩ ⟨c.val - 2048, by omega⟩) := by
  rw [qkvAt, dif_neg h, dif_pos h']

/-- An entry in the second half of a head of keys or values. -/
theorem qkvAt_second (h : ¬ c.val < 2048) (h' : ¬ c.val % 128 < 64) : qkvAt X W A B r c
    = dot X W r c * A (ix2 ⟨r.val % 2048, by omega⟩ ⟨c.val - 2048, by omega⟩)
      + dot X W r ⟨c.val - 64, by omega⟩ * B (ix2 ⟨r.val % 2048, by omega⟩ ⟨c.val - 2048, by omega⟩) := by
  rw [qkvAt, dif_neg h, dif_neg h']

end

/-- A row and a column of the point's blocks multiply to the row and column of the arrays they sit at. -/
theorem dot_blk (c : Dev nD) (t : Fin cfg0.N) (r s : Fin 1024) :
    dot (a := 1024) (b := 1024) (φ := .bf16) (ψ := .bf16) (iblk0 V c 0 t) (iblk0 V c 1 t) r s
      = dot (a := 4096) (b := 3072) (φ := .bf16) (ψ := .bf16) (V c main_v1) (V c main_v4)
          ⟨t.val / 3 * 1024 + r.val, by have := idx t; omega⟩ ⟨t.val % 3 * 1024 + s.val, by omega⟩ := by
  unfold dot
  blk_point [iblk0, idx t]

/-- After the region its result is `qkv` of the arrays it was entered with. -/
theorem final (c : Dev nD) :
    (dat0 V c).arrAt 4 cfg0.N = qkv (V c main_v1) (V c main_v4) (V c main_v10) (V c main_v15) := by
  refine (dat0 V c).arrAt_eq_of_covers 4 _ (by decide +kernel) fun t _ y => ?_
  blk_simp
  rw [after0_4]
  obtain ⟨r, s, rfl⟩ : ∃ (r : Fin 1024) (s : Fin 1024), y = ix2 r s := ⟨y 0, y 1, eq_ix2 y⟩
  have ht := idx t
  have hr : (((cfg0.win 4).blk t).view.emb (ix2 r s)) = ix2 (n0 := 4096) (n1 := 3072)
      ⟨t.val / 3 * 1024 + r.val, by omega⟩ ⟨t.val % 3 * 1024 + s.val, by omega⟩ := by blk_ext [idx t]
  by_cases h : t.val % 3 = 2
  · rw [outsAt0_B V c t (by omega) h]
    frame_out
    rw [rotated_apply, hr]
    have ha : iblk0 V c 2 t (ix2 r s) = V c main_v10 (ix2 (n0 := 2048) (n1 := 1024)
        ⟨(t.val / 3 * 1024 + r.val) % 2048, by omega⟩ ⟨t.val % 3 * 1024 + s.val - 2048, by omega⟩) := by
      blk_ext [iblk0, idx t]
    have hb : iblk0 V c 3 t (ix2 r s) = V c main_v15 (ix2 (n0 := 2048) (n1 := 1024)
        ⟨(t.val / 3 * 1024 + r.val) % 2048, by omega⟩ ⟨t.val % 3 * 1024 + s.val - 2048, by omega⟩) := by
      blk_ext [iblk0, idx t]
    rw [ha, hb]
    by_cases h64 : s.val % 128 < 64
    · rw [dif_pos h64, dot_blk, dot_blk]
      refine Eq.trans ?_ (qkvAt_first _ _ _ _ _ ⟨t.val % 3 * 1024 + s.val, by omega⟩
        (by dsimp only; omega) (by dsimp only; omega)).symm
      congr 3
    · rw [dif_neg h64, dot_blk, dot_blk]
      refine Eq.trans ?_ (qkvAt_second _ _ _ _ _ ⟨t.val % 3 * 1024 + s.val, by omega⟩
        (by dsimp only; omega) (by dsimp only; omega)).symm
      congr 3
      exact Fin.ext (by dsimp only; omega)
  · rw [outsAt0_A V c t (by omega) h]
    frame_out
    rw [scaled_apply, hr, dot_blk]
    exact (qkvAt_query _ _ _ _ _ _ (by dsimp only; omega)).symm

end Cert.KernelIdeal.Region0

end
-- ==== Proof.PayAtt.lean ====
/- What one head's arithmetic in the attention kernel computes: for the first half of the rows the softmax average
   over the first 1024 keys, for the second half the one over all 2048 keys, written in two pieces. -/
module

public import proofs.«01_k».proof.Proof.Gen.KernelIdeal.Skeleton
public import proofs.«01_k».proof.Proof.Model
public import proofs.«01_k».proof.Proof.Consts
public import Idealize.ShloMosaic.Lib.WordCmp

@[expose] public section

set_option maxRecDepth 16384

noncomputable section

namespace Cert.KernelIdeal.PayAtt

open Idealize.ShloMosaic Idealize.ShloMosaic.TcCoe Idealize.SL.Sem Cert.KernelIdeal Cert.KernelIdeal.Gen Cert.Model

/-- The triangular mask keeps an entry exactly when its column is not past its row. -/
theorem sel (r j : Fin 1024) (x : EReal) :
    Scalar.select (IntOp.cmpi .sge (BitVec.ofNat 32 r.val) (BitVec.ofNat 32 j.val)) x
      (Named.named (F := Ideal) κ "mask" (φ := .f32) 0xF149F2CA#32) = if j.val ≤ r.val then x else ⊥ := by
  rw [WordCmp.cmpi_sge_ofNat (by omega) (by omega), WordCmp.select_decide, Consts.mask]

/-- Row `r` of queries times row `j` of keys. -/
def score {n : ℕ} (q : FVec Ideal S1024x128 .bf16) (k : FVec Ideal ⟨2, ![n, 128]⟩ .bf16) (r : Fin 1024) (j : Fin n) : EReal :=
  ∑ e : Fin 128, q (ix2 r e) * k (ix2 j e)

/-- A head of the first half of the rows: the causal softmax average over the first 1024 keys. -/
theorem top_apply (q k v : FVec Ideal S1024x128 .bf16) (r : Fin 1024) (d : Fin 128) :
    k1_pay3 (F := Ideal) q k v (ix2 r d)
      = att (causal r (score q k r)) (fun j => v (ix2 j d)) := by
  pointwise [k1_pay3, k1_pay2]
  simp only [sel, Consts.negInf]
  rfl

/-- The scores of row `r` against the first 1024 of 2048 keys. -/
def scoreLo (q : FVec Ideal S1024x128 .bf16) (k : FVec Ideal S2048x128 .bf16) (r j : Fin 1024) : EReal :=
  ∑ e : Fin 128, q (ix2 r e) * k (ix2 ⟨j.val, by omega⟩ e)

/-- The scores of row `r` against the last 1024 of 2048 keys, those past the row masked. -/
def scoreHi (q : FVec Ideal S1024x128 .bf16) (k : FVec Ideal S2048x128 .bf16) (r j : Fin 1024) : EReal :=
  if j.val ≤ r.val then ∑ e : Fin 128, q (ix2 r e) * k (ix2 ⟨1024 + j.val, by omega⟩ e) else ⊥

/-- A head of the second half of the rows, as the kernel writes it: two pieces under one greatest score. -/
theorem bot_pieces (q : FVec Ideal S1024x128 .bf16) (k : FVec Ideal S2048x128 .bf16)
    (v w : FVec Ideal S1024x128 .bf16) (r : Fin 1024) (d : Fin 128) :
    k1_pay19 (F := Ideal) (k1_pay15 (F := Ideal) k1_pay2 q k) (k1_pay16 (F := Ideal) k1_pay2 q k)
        (k1_pay17 (F := Ideal) k1_pay2 q k) (k1_pay18 (F := Ideal) k1_pay2 q k) v w (ix2 r d)
      = Ideal.div
        ((∑ j, Ideal.exp (scoreLo q k r j - max (top (scoreLo q k r)) (top (scoreHi q k r))) * v (ix2 j d))
          + ∑ j, Ideal.exp (scoreHi q k r j - max (top (scoreLo q k r)) (top (scoreHi q k r))) * w (ix2 j d))
        ((∑ j, Ideal.exp (scoreLo q k r j - max (top (scoreLo q k r)) (top (scoreHi q k r))))
          + ∑ j, Ideal.exp (scoreHi q k r j - max (top (scoreLo q k r)) (top (scoreHi q k r)))) := by
  pointwise [k1_pay19, k1_pay15, k1_pay16, k1_pay17, k1_pay18, k1_pay14, k1_pay13, k1_pay12, k1_pay11, k1_pay2]
  simp only [sel, Consts.negInf]
  rfl

end Cert.KernelIdeal.PayAtt

end
-- ==== Proof.PayBlk.lean ====
/- One block of the attention kernel: at every row and column the causal softmax average of the row's scores. -/
module

public import proofs.«01_k».proof.Proof.PayAtt

@[expose] public section

set_option maxRecDepth 16384

noncomputable section

namespace Cert.KernelIdeal.PayBlk

open Idealize.ShloMosaic Idealize.ShloMosaic.TcCoe Idealize.SL.Sem Cert.KernelIdeal Cert.KernelIdeal.Gen Cert.Model
open Cert.KernelIdeal.PayAtt

/-- A head of the second half of the rows: the causal softmax average over all 2048 keys, whose values `V` come in
    two halves. -/
theorem bot_apply (q : FVec Ideal S1024x128 .bf16) (k : FVec Ideal S2048x128 .bf16) (v w : FVec Ideal S1024x128 .bf16)
    (r : Fin 1024) (d : Fin 128) (V : Fin 2048 → EReal) (hv : ∀ j : Fin 1024, v (ix2 j d) = V ⟨j.val, by omega⟩)
    (hw : ∀ j : Fin 1024, w (ix2 j d) = V ⟨1024 + j.val, by omega⟩) :
    k1_pay19 (F := Ideal) (k1_pay15 (F := Ideal) k1_pay2 q k) (k1_pay16 (F := Ideal) k1_pay2 q k)
        (k1_pay17 (F := Ideal) k1_pay2 q k) (k1_pay18 (F := Ideal) k1_pay2 q k) v w (ix2 r d)
      = att (causal (1024 + r.val) (score q k r)) V := by
  rw [bot_pieces]
  have h1 : ∀ j : Fin 1024, causal (1024 + r.val) (score q k r) (Fin.castAdd 1024 j) = scoreLo q k r j := fun j =>
    if_pos (by simp only [Fin.val_castAdd]; omega)
  have h2 : ∀ j : Fin 1024, causal (1024 + r.val) (score q k r) (Fin.natAdd 1024 j) = scoreHi q k r j := fun j => by
    simp only [causal, Fin.val_natAdd, Nat.add_le_add_iff_left]; rfl
  refine Eq.trans ?_ (att_add (m := 1024) (n := 1024) (causal (1024 + r.val) (score q k r)) V).symm
  simp only [h1, h2, hv, hw]
  rfl

/-- A head of the first half of the rows over all 2048 keys: the keys past the first half are masked. -/
theorem top_apply' (q k v : FVec Ideal S1024x128 .bf16) (K : FVec Ideal S2048x128 .bf16) (V : Fin 2048 → EReal)
    (r : Fin 1024) (d : Fin 128) (hk : ∀ (j : Fin 1024) e, k (ix2 j e) = K (ix2 ⟨j.val, by omega⟩ e))
    (hv : ∀ j : Fin 1024, v (ix2 j d) = V ⟨j.val, by omega⟩) :
    k1_pay3 (F := Ideal) q k v (ix2 r d) = att (causal r (score q K r)) V := by
  rw [top_apply]
  refine Eq.trans ?_ (att_masked_tail (m := 1024) (n := 1024) (causal r (score q K r)) V fun j => ?_).symm
  · congr 1
    · funext j; simp only [causal, score, hk]; rfl
    · funext j; exact hv j
  · exact if_neg (by simp only [Fin.val_natAdd]; omega)

end Cert.KernelIdeal.PayBlk

end
-- ==== Proof.PayHeads.lean ====
/- The heads of a block are one and the same arithmetic, however the kernel's text cuts it, and each half of the
   rows stores four of them side by side. -/
module

public import proofs.«01_k».proof.Proof.Gen.KernelIdeal.Skeleton

@[expose] public section

set_option maxRecDepth 16384

noncomputable section

namespace Cert.KernelIdeal.PayHeads

open Idealize.ShloMosaic Idealize.ShloMosaic.TcCoe Idealize.SL.Sem Cert.KernelIdeal Cert.KernelIdeal.Gen

section
variable (q k v : FVec Ideal S1024x128 .bf16)

/-- A head of the first half of the rows. -/
abbrev topHead : FVec Ideal S1024x128 .bf16 := k1_pay3 (F := Ideal) q k v

theorem pay6_eq : k1_pay6 (F := Ideal) (k1_pay4 (F := Ideal) q k) (k1_pay5 (F := Ideal) q k) v = topHead q k v := rfl

theorem pay7_eq : k1_pay7 (F := Ideal) k1_pay2 q k v = topHead q k v := rfl

/-- The first half of the rows is four heads side by side. -/
theorem pay10_eq (a b c : FVec Ideal S1024x128 .bf16) :
    k1_pay10 (F := Ideal) a b c (k1_pay8 (F := Ideal) k1_pay2 q k) (k1_pay9 (F := Ideal) k1_pay2 q k) v
      = concatenate S1024x512 1 [⟨S1024x128, a⟩, ⟨S1024x128, b⟩, ⟨S1024x128, c⟩, ⟨S1024x128, topHead q k v⟩]
        concatenates_S1024x128_S1024x128_S1024x128_S1024x128_S1024x512_d1 := rfl

end

section
variable (q : FVec Ideal S1024x128 .bf16) (k : FVec Ideal S2048x128 .bf16) (v w : FVec Ideal S1024x128 .bf16)

/-- A head of the second half of the rows. -/
abbrev botHead : FVec Ideal S1024x128 .bf16 :=
  k1_pay19 (F := Ideal) (k1_pay15 (F := Ideal) k1_pay2 q k) (k1_pay16 (F := Ideal) k1_pay2 q k)
    (k1_pay17 (F := Ideal) k1_pay2 q k) (k1_pay18 (F := Ideal) k1_pay2 q k) v w

theorem pay28_eq : k1_pay28 (F := Ideal) (k1_pay24 (F := Ideal) k1_pay2 q k) (k1_pay25 (F := Ideal) k1_pay2 q k)
    (k1_pay26 (F := Ideal) k1_pay2 q k) (k1_pay27 (F := Ideal) v) w = botHead q k v w := rfl

theorem pay37_eq : k1_pay37 (F := Ideal) (k1_pay34 (F := Ideal) k1_pay2 q k) (k1_pay35 (F := Ideal) k1_pay2 q k)
    (k1_pay36 (F := Ideal) k1_pay2 q k v) w = botHead q k v w := rfl

/-- The second half of the rows is four heads side by side. -/
theorem pay1_eq (a b c : FVec Ideal S1024x128 .bf16) :
    k1_pay1 (F := Ideal) a b c (k1_pay44 (F := Ideal) k1_pay2 q k v w) (k1_pay45 (F := Ideal) k1_pay2 q k)
      = concatenate S1024x512 1 [⟨S1024x128, a⟩, ⟨S1024x128, b⟩, ⟨S1024x128, c⟩, ⟨S1024x128, botHead q k v w⟩]
        concatenates_S1024x128_S1024x128_S1024x128_S1024x128_S1024x512_d1 := rfl

end

end Cert.KernelIdeal.PayHeads

end
-- ==== Proof.Region1.lean ====
/- The attention kernel's array: every head's rows are the causal softmax averages of its scores. -/
module

public import proofs.«01_k».proof.Proof.Gen.KernelIdeal.Frame
public import proofs.«01_k».proof.Proof.PayBlk
public import proofs.«01_k».proof.Proof.PayHeads
public import Idealize.ShloMosaic.Lib.Pipeline.ValueKit

@[expose] public section

set_option maxRecDepth 16384

noncomputable section

namespace Cert.KernelIdeal.Region1

open Idealize.ShloMosaic Idealize.ShloMosaic.TcCoe Idealize.SL.Sem Cert.KernelIdeal Cert.KernelIdeal.Gen Cert.Model
open Idealize.ShloMosaic.Pipeline (Dat)
open Cert.KernelIdeal.PayAtt Cert.KernelIdeal.PayBlk Cert.KernelIdeal.PayHeads

/-- Four heads side by side, read at a column: the head the column is in, at the column within the head. -/
theorem concat_apply (f : Fin 4 → FVec Ideal S1024x128 .bf16) (r : Fin 1024) (s : Fin 512) :
    concatenate S1024x512 1 [⟨S1024x128, f 0⟩, ⟨S1024x128, f 1⟩, ⟨S1024x128, f 2⟩, ⟨S1024x128, f 3⟩]
        concatenates_S1024x128_S1024x128_S1024x128_S1024x128_S1024x512_d1 (ix2 r s)
      = f ⟨s.val / 128, by omega⟩ (ix2 r ⟨s.val % 128, by omega⟩) := by
  pointwise
  have key : ∀ (a b : Fin 4) (x y : Fin 128), a = b → x = y → f a (ix2 r x) = f b (ix2 r y) := by
    rintro a _ x _ rfl rfl; rfl
  split_ifs <;> exact key _ _ _ _ (Fin.ext (by simp; omega)) (Fin.ext (by simp; omega))

/-- One entry of a block of queries `q` over keys `k` and values `v`: the causal softmax average in its head. -/
def blkAt (q : FVec Ideal S2048x512 .bf16) (k v : FVec Ideal S2048x128 .bf16) (r : Fin 2048) (s : Fin 512) : EReal :=
  att (causal r fun j : Fin 2048 => ∑ e : Fin 128, q (ix2 r ⟨s.val / 128 * 128 + e.val, by omega⟩) * k (ix2 j e))
    fun j => v (ix2 j ⟨s.val % 128, by omega⟩)

/-- A part of a block. -/
abbrev part {S : Shape} (X : FVec Ideal S .bf16) (r : Rect S) : FVec Ideal r.shape .bf16 :=
  View.ld (Val := Elt Ideal) (e' := .bf16) X r

/-- A part of a block, read at an index. -/
theorem ld_apply {a b a' b' : ℕ} (X : FVec Ideal ⟨2, ![a, b]⟩ .bf16) (o p : ℕ) (inb) (r : Fin a') (d : Fin b')
    (hr : o + r.val < a) (hd : p + d.val < b) :
    part X (Rect.unit (s := ⟨2, ![a, b]⟩) ![o, p] ![a', b'] inb) (ix2 r d)
      = X (ix2 ⟨o + r.val, hr⟩ ⟨p + d.val, hd⟩) :=
  View.ld_unit_apply_of _ _ _ _ _ _ fun x => by fin_cases x <;> rfl

section
variable (q : FVec Ideal S2048x512 .bf16) (k v : FVec Ideal S2048x128 .bf16)

/-- A head of the first half of the rows, its queries at column `p` of the block. -/
theorem topHead_apply (p : ℕ) (hp : p + 128 ≤ 512) (inb) (r : Fin 1024) (d : Fin 128) :
    topHead (part q (Rect.unit (s := S2048x512) ![0, p] S1024x128.size inb)) (part k r1_1) (part v r1_1) (ix2 r d)
      = att (causal r fun j : Fin 2048 => ∑ e : Fin 128, q (ix2 ⟨r.val, by omega⟩ ⟨p + e.val, by omega⟩) * k (ix2 j e))
          fun j => v (ix2 j d) := by
  refine (top_apply' _ _ _ k (fun j => v (ix2 j d)) r d
    (fun j e => (ld_apply k 0 0 _ j e (by omega) (by omega)).trans (by simp only [Nat.zero_add]))
    (fun j => (ld_apply v 0 0 _ j d (by omega) (by omega)).trans (by simp only [Nat.zero_add]))).trans ?_
  have hQ : ∀ e : Fin 128, part q (Rect.unit (s := S2048x512) ![0, p] S1024x128.size inb) (ix2 r e)
      = q (ix2 ⟨r.val, by omega⟩ ⟨p + e.val, by omega⟩) := fun e =>
    (ld_apply q 0 p inb r e (by omega) (by omega)).trans (by simp only [Nat.zero_add])
  unfold score
  simp only [hQ]

/-- A head of the second half of the rows, its queries at column `p` of the block. -/
theorem botHead_apply (p : ℕ) (hp : p + 128 ≤ 512) (inb) (r : Fin 1024) (d : Fin 128) :
    botHead (part q (Rect.unit (s := S2048x512) ![1024, p] S1024x128.size inb)) (part k r1_7) (part v r1_1)
        (part v r1_8) (ix2 r d)
      = att (causal (1024 + r.val) fun j : Fin 2048 =>
            ∑ e : Fin 128, q (ix2 ⟨1024 + r.val, by omega⟩ ⟨p + e.val, by omega⟩) * k (ix2 j e))
          fun j => v (ix2 j d) := by
  refine (bot_apply _ _ _ _ r d (fun j => v (ix2 j d))
    (fun j => (ld_apply v 0 0 _ j d (by omega) (by omega)).trans (by simp only [Nat.zero_add]))
    (fun j => (ld_apply v 1024 0 _ j d (by omega) (by omega)).trans (by simp only [Nat.zero_add]))).trans ?_
  have hQ : ∀ e : Fin 128, part q (Rect.unit (s := S2048x512) ![1024, p] S1024x128.size inb) (ix2 r e)
      = q (ix2 ⟨1024 + r.val, by omega⟩ ⟨p + e.val, by omega⟩) := fun e => ld_apply q 1024 p inb r e (by omega) (by omega)
  have hK : ∀ (j : Fin 2048) (e : Fin 128), part k r1_7 (ix2 j e) = k (ix2 j e) := fun j e =>
    (ld_apply k 0 0 _ j e (by omega) (by omega)).trans (by simp only [Nat.zero_add])
  unfold score
  simp only [hQ, hK]

/-- Four heads side by side are the rows `R` of a block when each of them is in its own columns. -/
theorem block_of_heads (f : Fin 4 → FVec Ideal S1024x128 .bf16) (R : Fin 2048) (r : Fin 1024) (s : Fin 512)
    (H : ∀ (h : Fin 4) (d : Fin 128), f h (ix2 r d)
      = att (causal R fun j : Fin 2048 => ∑ e : Fin 128, q (ix2 R ⟨h.val * 128 + e.val, by omega⟩) * k (ix2 j e))
          fun j => v (ix2 j d)) :
    concatenate S1024x512 1 [⟨S1024x128, f 0⟩, ⟨S1024x128, f 1⟩, ⟨S1024x128, f 2⟩, ⟨S1024x128, f 3⟩]
        concatenates_S1024x128_S1024x128_S1024x128_S1024x128_S1024x512_d1 (ix2 r s) = blkAt q k v R s :=
  (concat_apply f r s).trans (H ⟨s.val / 128, by omega⟩ ⟨s.val % 128, by omega⟩)

/-- The stored first half of the rows. -/
theorem top_block (r : Fin 1024) (s : Fin 512) :
    concatenate S1024x512 1 [⟨S1024x128, topHead (part q r1_0) (part k r1_1) (part v r1_1)⟩,
        ⟨S1024x128, topHead (part q r1_2) (part k r1_1) (part v r1_1)⟩,
        ⟨S1024x128, topHead (part q r1_3) (part k r1_1) (part v r1_1)⟩,
        ⟨S1024x128, topHead (part q r1_4) (part k r1_1) (part v r1_1)⟩]
        concatenates_S1024x128_S1024x128_S1024x128_S1024x128_S1024x512_d1 (ix2 r s)
      = blkAt q k v ⟨r.val, by omega⟩ s := by
  refine block_of_heads q k v ![topHead (part q r1_0) (part k r1_1) (part v r1_1),
    topHead (part q r1_2) (part k r1_1) (part v r1_1),
    topHead (part q r1_3) (part k r1_1) (part v r1_1),
    topHead (part q r1_4) (part k r1_1) (part v r1_1)] ⟨r.val, by omega⟩ r s fun h d => ?_
  fin_cases h
  · exact topHead_apply q k v 0 (by omega) _ r d
  · exact topHead_apply q k v 128 (by omega) _ r d
  · exact topHead_apply q k v 256 (by omega) _ r d
  · exact topHead_apply q k v 384 (by omega) _ r d

/-- The stored second half of the rows. -/
theorem bot_block (r : Fin 1024) (s : Fin 512) :
    concatenate S1024x512 1 [⟨S1024x128, botHead (part q r1_6) (part k r1_7) (part v r1_1) (part v r1_8)⟩,
        ⟨S1024x128, botHead (part q r1_9) (part k r1_7) (part v r1_1) (part v r1_8)⟩,
        ⟨S1024x128, botHead (part q r1_10) (part k r1_7) (part v r1_1) (part v r1_8)⟩,
        ⟨S1024x128, botHead (part q r1_11) (part k r1_7) (part v r1_1) (part v r1_8)⟩]
        concatenates_S1024x128_S1024x128_S1024x128_S1024x128_S1024x512_d1 (ix2 r s)
      = blkAt q k v ⟨1024 + r.val, by omega⟩ s := by
  refine block_of_heads q k v ![botHead (part q r1_6) (part k r1_7) (part v r1_1) (part v r1_8),
    botHead (part q r1_9) (part k r1_7) (part v r1_1) (part v r1_8),
    botHead (part q r1_10) (part k r1_7) (part v r1_1) (part v r1_8),
    botHead (part q r1_11) (part k r1_7) (part v r1_1) (part v r1_8)] ⟨1024 + r.val, by omega⟩ r s fun h d => ?_
  fin_cases h
  · exact botHead_apply q k v 0 (by omega) _ r d
  · exact botHead_apply q k v 128 (by omega) _ r d
  · exact botHead_apply q k v 256 (by omega) _ r d
  · exact botHead_apply q k v 384 (by omega) _ r d

/-- What one point leaves in its block of the result. -/
theorem out_apply (r : Fin 2048) (s : Fin 512) : out1_3 (F := Ideal) q k v (ix2 r s) = blkAt q k v r s := by
  unfold_out out1_3
  simp only [pay6_eq, pay7_eq, pay10_eq, pay28_eq, pay37_eq, pay1_eq]
  refine View.canon_apply_of_pieces (Val := Elt Ideal) (e := .bf16) (fun i : S2048x512.Idx => blkAt q k v (i 0) (i 1)) _ ?_ (ix2 r s) (cover1_3 _ _ _)
  intro p hp x
  rcases List.mem_cons.mp hp with rfl | hp
  · have h0 := Rect.idx_unit_val (s := S2048x512) ![1024, 0] S1024x512.size inb_S2048x512_S1024x512_1024_0 x 0
    have h1 := Rect.idx_unit_val (s := S2048x512) ![1024, 0] S1024x512.size inb_S2048x512_S1024x512_1024_0 x 1
    refine (congrArg _ (eq_ix2 x)).trans ((bot_block q k v (x 0) (x 1)).trans ?_)
    exact congrArg₂ (blkAt q k v) (Fin.ext h0.symm) (Fin.ext ((Nat.zero_add _).symm.trans h1.symm))
  · obtain rfl := List.mem_singleton.mp hp
    have h0 := Rect.idx_unit_val (s := S2048x512) ![0, 0] S1024x512.size inb_S2048x512_S1024x512_0_0 x 0
    have h1 := Rect.idx_unit_val (s := S2048x512) ![0, 0] S1024x512.size inb_S2048x512_S1024x512_0_0 x 1
    refine (congrArg _ (eq_ix2 x)).trans ((top_block q k v (x 0) (x 1)).trans ?_)
    exact congrArg₂ (blkAt q k v) (Fin.ext ((Nat.zero_add _).symm.trans h0.symm))
      (Fin.ext ((Nat.zero_add _).symm.trans h1.symm))

end

variable (V : (c : Dev nD) → (b : Ref sig .tc) → Buf (Elt Ideal) ((c : Thread nD τ).loc b))

/-- Where every window's block sits at a grid point. -/
theorem idx : ∀ t : Fin cfg1.N, win1_0.index t = ![t.val / 4, t.val % 4] ∧ win1_1.index t = ![t.val / 4, 16 + t.val % 4]
    ∧ win1_2.index t = ![t.val / 4, 20 + t.val % 4] ∧ win1_3.index t = ![t.val / 4, t.val % 4]
    ∧ t.val / 4 < 2 ∧ t.val % 4 < 4 :=
  (by decide +kernel : ∀ t : Fin grid1.N, _)

/-- One entry of the attention array over the array of queries, keys and values: row `r` is query `r % 2048` of batch
    `r / 2048`, column `c` is column `c % 128` of head `c / 128`, whose keys and values are those of group `c / 512`. -/
def attnAt (Q : FVec Ideal S4096x3072 .bf16) (r : Fin 4096) (c : Fin 2048) : EReal :=
  att (causal (r.val % 2048) fun j : Fin 2048 => ∑ e : Fin 128, Q (ix2 r ⟨c.val / 128 * 128 + e.val, by omega⟩)
      * Q (ix2 ⟨r.val / 2048 * 2048 + j.val, by omega⟩ ⟨2048 + c.val / 512 * 128 + e.val, by omega⟩))
    fun j => Q (ix2 ⟨r.val / 2048 * 2048 + j.val, by omega⟩ ⟨2560 + c.val / 512 * 128 + c.val % 128, by omega⟩)

/-- The array of all entries. -/
def attn (Q : FVec Ideal S4096x3072 .bf16) : FVec Ideal S4096x2048 .bf16 := fun i => attnAt Q (i 0) (i 1)

/-- After the region its result is `attn` of the array it was entered with. -/
theorem final (c : Dev nD) : (dat1 V c).arrAt 3 cfg1.N = attn (V c main_v16) := by
  refine (dat1 V c).arrAt_eq_of_covers 3 _ (by decide +kernel) fun t _ y => ?_
  blk_simp
  rw [after1_3]
  obtain ⟨r, s, rfl⟩ : ∃ (r : Fin 2048) (s : Fin 512), y = ix2 r s := ⟨y 0, y 1, eq_ix2 y⟩
  have ht := idx t
  have hr : (((cfg1.win 3).blk t).view.emb (ix2 r s)) = ix2 (n0 := 4096) (n1 := 2048)
      ⟨t.val / 4 * 2048 + r.val, by omega⟩ ⟨t.val % 4 * 512 + s.val, by omega⟩ := by blk_ext [idx t]
  rw [hr]
  refine (out_apply _ _ _ r s).trans ?_
  have hq : ∀ e : Fin 128, iblk1 V c 0 t (ix2 r ⟨s.val / 128 * 128 + e.val, by omega⟩)
      = V c main_v16 (ix2 (n0 := 4096) (n1 := 3072) ⟨t.val / 4 * 2048 + r.val, by omega⟩
          ⟨(t.val % 4 * 512 + s.val) / 128 * 128 + e.val, by omega⟩) := fun e => by blk_ext [iblk1, idx t]
  have hk : ∀ (j : Fin 2048) (e : Fin 128), iblk1 V c 1 t (ix2 j e)
      = V c main_v16 (ix2 (n0 := 4096) (n1 := 3072) ⟨(t.val / 4 * 2048 + r.val) / 2048 * 2048 + j.val, by omega⟩
          ⟨2048 + (t.val % 4 * 512 + s.val) / 512 * 128 + e.val, by omega⟩) := fun j e => by blk_ext [iblk1, idx t]
  have hv : ∀ j : Fin 2048, iblk1 V c 2 t (ix2 j ⟨s.val % 128, by omega⟩)
      = V c main_v16 (ix2 (n0 := 4096) (n1 := 3072) ⟨(t.val / 4 * 2048 + r.val) / 2048 * 2048 + j.val, by omega⟩
          ⟨2560 + (t.val % 4 * 512 + s.val) / 512 * 128 + (t.val % 4 * 512 + s.val) % 128, by omega⟩) := fun j => by
    blk_ext [iblk1, idx t]
  unfold blkAt
  refine Eq.trans ?_ (show attnAt (V c main_v16) ⟨t.val / 4 * 2048 + r.val, by omega⟩
    ⟨t.val % 4 * 512 + s.val, by omega⟩ = _ from rfl)
  unfold attnAt
  simp only [hq, hk, hv]
  rw [show (t.val / 4 * 2048 + r.val) % 2048 = r.val by omega]

end Cert.KernelIdeal.Region1

end
-- ==== Proof.Region2.lean ====
/- The last kernel's array: every entry is a row of the attention array times a column of the output weights. -/
module

public import proofs.«01_k».proof.Proof.Gen.KernelIdeal.Frame
public import proofs.«01_k».proof.Proof.PayMul
public import Idealize.ShloMosaic.Lib.Pipeline.ValueKit

@[expose] public section

set_option maxRecDepth 16384

noncomputable section

namespace Cert.KernelIdeal.Region2

open Idealize.ShloMosaic Idealize.ShloMosaic.TcCoe Idealize.SL.Sem Cert.KernelIdeal Cert.KernelIdeal.Gen
open Idealize.ShloMosaic.Pipeline (Dat)
open Cert.KernelIdeal.PayMul

variable (V : (c : Dev nD) → (b : Ref sig .tc) → Buf (Elt Ideal) ((c : Thread nD τ).loc b))

/-- Where every window's block sits at a grid point. -/
theorem idx : ∀ t : Fin cfg2.N, win2_0.index t = ![t.val / 2, 0] ∧ win2_1.index t = ![0, t.val % 2]
    ∧ win2_2.index t = ![t.val / 2, t.val % 2] ∧ t.val / 2 < 4 ∧ t.val % 2 < 2 :=
  (by decide +kernel : ∀ t : Fin grid2.N, _)

/-- The product array. -/
def prod (X : FVec Ideal S4096x2048 .bf16) (W : FVec Ideal S2048x2048 .bf16) : FVec Ideal S4096x2048 .f32 :=
  fun i => dot (a := 4096) (b := 2048) X W (i 0) (i 1)

/-- After the region its result is the product of the arrays it was entered with. -/
theorem final (c : Dev nD) : (dat2 V c).arrAt 2 cfg2.N = prod (V c main_v17) (V c main_v19) := by
  refine (dat2 V c).arrAt_eq_of_covers 2 _ (by decide +kernel) fun t _ y => ?_
  blk_simp
  rw [after2_2]
  frame_out
  obtain ⟨r, s, rfl⟩ : ∃ (r : Fin 1024) (s : Fin 1024), y = ix2 r s := ⟨y 0, y 1, eq_ix2 y⟩
  rw [prod_apply]
  unfold prod dot
  blk_point [iblk2, idx t]

end Cert.KernelIdeal.Region2

end
-- ==== Proof.Spec.lean ====
/- The result both programs are compared with, entry by entry over the argument arrays: projections of the hidden
   states, keys and values rotated within their head, causal attention with four query heads to a group of keys and
   values, and the output product. -/
module

public import proofs.«01_k».proof.Proof.Model
public import Idealize.ShloMosaic.Lib.Pipeline.ValueKit

@[expose] public section

noncomputable section

namespace Cert.Spec

open Idealize.ShloMosaic Cert.Model

variable (rc : FVec Ideal ⟨2, ![2048, 128]⟩ .f32) (hs : FVec Ideal ⟨3, ![2, 2048, 2048]⟩ .f32)
  (wq : FVec Ideal ⟨2, ![2048, 2048]⟩ .f32) (wk wv : FVec Ideal ⟨2, ![512, 2048]⟩ .f32)
  (wo : FVec Ideal ⟨2, ![2048, 2048]⟩ .f32)

/-- Row `i` of batch `b` of the hidden states times row `c` of the weights `w`. -/
def proj {n : ℕ} (w : FVec Ideal ⟨2, ![n, 2048]⟩ .f32) (b : Fin 2) (i : Fin 2048) (c : Fin n) : EReal :=
  ∑ j : Fin 2048, hs (ix3 b i j) * w (ix2 c j)

/-- Group `g`'s projection at position `i`, rotated by the position's angles. -/
def rot (w : FVec Ideal ⟨2, ![512, 2048]⟩ .f32) (b : Fin 2) (g : Fin 4) (i : Fin 2048) (d : Fin 128) : EReal :=
  rope (fun e => proj hs w b i ⟨g.val * 128 + e.val, by omega⟩) (fun e => rc (ix2 i e)) d

/-- Column `c` of head `c / 128` of query `i`: the causal softmax average over the head's group `c / 512`. -/
def attnAt (b : Fin 2) (i : Fin 2048) (c : Fin 2048) : EReal :=
  att (causal i.val fun j : Fin 2048 => ∑ e : Fin 128,
      proj hs wq b i ⟨c.val / 128 * 128 + e.val, by omega⟩ * (((Real.sqrt 128)⁻¹ : ℝ) : EReal)
        * rot rc hs wk b ⟨c.val / 512, by omega⟩ j e)
    fun j => rot rc hs wv b ⟨c.val / 512, by omega⟩ j ⟨c.val % 128, by omega⟩

/-- Entry `n` of the result's row `i` of batch `b`. -/
def resultAt (b : Fin 2) (i n : Fin 2048) : EReal :=
  ∑ c : Fin 2048, attnAt rc hs wq wk wv b i c * wo (ix2 n c)

end Cert.Spec

end
-- ==== Proof.KerMath.lean ====
/- The kernels' arrays composed: with the host's arrays at their entries, the projections' array holds the scaled
   queries and the rotated keys and values, and the attention array holds the attention of the arguments. -/
module

public import proofs.«01_k».proof.Proof.Region0
public import proofs.«01_k».proof.Proof.Region1
public import proofs.«01_k».proof.Proof.Region2
public import proofs.«01_k».proof.Proof.Spec

@[expose] public section

set_option maxRecDepth 16384

noncomputable section

namespace Cert.KernelIdeal.KerMath

open Idealize.ShloMosaic Cert.KernelIdeal Cert.KernelIdeal.Gen Cert.Model
open Cert.KernelIdeal.PayMul Cert.KernelIdeal.Region0

variable (rc : FVec Ideal ⟨2, ![2048, 128]⟩ .f32) (hs : FVec Ideal ⟨3, ![2, 2048, 2048]⟩ .f32)
  (wq : FVec Ideal ⟨2, ![2048, 2048]⟩ .f32) (wk wv : FVec Ideal ⟨2, ![512, 2048]⟩ .f32)
  (X : FVec Ideal S4096x2048 .bf16) (W : FVec Ideal S2048x3072 .bf16) (A B : FVec Ideal S2048x1024 .f32)

/-- The host's arrays hold the hidden states, the weights side by side, the doubled cosines and the signed sines. -/
structure Prepared : Prop where
  hidden : ∀ (r : Fin 4096) (j : Fin 2048),
    X (ix2 r j) = hs (ix3 ⟨r.val / 2048, by omega⟩ ⟨r.val % 2048, by omega⟩ j)
  weights : ∀ (j : Fin 2048) (n : Fin 3072), W (ix2 j n)
    = if h : n.val < 2048 then wq (ix2 ⟨n.val, h⟩ j)
      else if h' : n.val < 2560 then wk (ix2 ⟨n.val - 2048, by omega⟩ j)
      else wv (ix2 ⟨n.val - 2560, by omega⟩ j)
  cosines : ∀ (i : Fin 2048) (s : Fin 1024), A (ix2 i s)
    = if h : s.val % 128 < 64 then rc (ix2 i ⟨s.val % 128, by omega⟩) else rc (ix2 i ⟨s.val % 128 - 64, by omega⟩)
  sines : ∀ (i : Fin 2048) (s : Fin 1024), B (ix2 i s)
    = if h : s.val % 128 < 64 then -rc (ix2 i ⟨s.val % 128 + 64, by omega⟩) else rc (ix2 i ⟨s.val % 128, by omega⟩)

variable {rc hs wq wk wv X W A B}

/-- A query column's product. -/
theorem dot_query (H : Prepared rc hs wq wk wv X W A B) (b : Fin 2) (i c : Fin 2048) :
    dot X W ⟨b.val * 2048 + i.val, by omega⟩ ⟨c.val, by omega⟩ = Spec.proj hs wq b i c := by
  refine Finset.sum_congr rfl fun j _ => ?_
  rw [H.hidden, H.weights, dif_pos c.isLt]
  congr 2
  exact congrArg₂ (fun p q => ix3 (n0 := 2) (n1 := 2048) (n2 := 2048) p q j)
    (Fin.ext (show (b.val * 2048 + i.val) / 2048 = b.val by omega))
    (Fin.ext (show (b.val * 2048 + i.val) % 2048 = i.val by omega))

/-- A key column's product. -/
theorem dot_key (H : Prepared rc hs wq wk wv X W A B) (b : Fin 2) (i : Fin 2048) (c : Fin 512) (n : Fin 3072)
    (hn : n.val = 2048 + c.val) :
    dot X W ⟨b.val * 2048 + i.val, by omega⟩ n = Spec.proj hs wk b i c := by
  refine Finset.sum_congr rfl fun j _ => ?_
  rw [H.hidden, H.weights, dif_neg (by omega), dif_pos (by omega)]
  refine congrArg₂ (· * ·) (congrArg hs ?_) (congrArg wk ?_)
  · exact congrArg₂ (fun p q => ix3 (n0 := 2) (n1 := 2048) (n2 := 2048) p q j)
      (Fin.ext (show (b.val * 2048 + i.val) / 2048 = b.val by omega))
      (Fin.ext (show (b.val * 2048 + i.val) % 2048 = i.val by omega))
  · exact congrArg (fun p => ix2 (n0 := 512) (n1 := 2048) p j) (Fin.ext (show n.val - 2048 = c.val by omega))

/-- A value column's product. -/
theorem dot_value (H : Prepared rc hs wq wk wv X W A B) (b : Fin 2) (i : Fin 2048) (c : Fin 512) (n : Fin 3072)
    (hn : n.val = 2560 + c.val) :
    dot X W ⟨b.val * 2048 + i.val, by omega⟩ n = Spec.proj hs wv b i c := by
  refine Finset.sum_congr rfl fun j _ => ?_
  rw [H.hidden, H.weights, dif_neg (by omega), dif_neg (by omega)]
  refine congrArg₂ (· * ·) (congrArg hs ?_) (congrArg wv ?_)
  · exact congrArg₂ (fun p q => ix3 (n0 := 2) (n1 := 2048) (n2 := 2048) p q j)
      (Fin.ext (show (b.val * 2048 + i.val) / 2048 = b.val by omega))
      (Fin.ext (show (b.val * 2048 + i.val) % 2048 = i.val by omega))
  · exact congrArg (fun p => ix2 (n0 := 512) (n1 := 2048) p j) (Fin.ext (show n.val - 2560 = c.val by omega))

/-- A rotated column, whichever 512 columns `w`'s projections start at. -/
theorem rotated (H : Prepared rc hs wq wk wv X W A B) (w : FVec Ideal ⟨2, ![512, 2048]⟩ .f32) (base : ℕ)
    (hb : base = 2048 ∨ base = 2560) (b : Fin 2) (i : Fin 2048)
    (hw : ∀ (c : Fin 512) (n : Fin 3072), n.val = base + c.val →
      dot X W ⟨b.val * 2048 + i.val, by omega⟩ n = Spec.proj hs w b i c)
    (g : Fin 4) (d : Fin 128) (n : Fin 3072) (hn : n.val = base + g.val * 128 + d.val) :
    qkvAt X W A B ⟨b.val * 2048 + i.val, by omega⟩ n = Spec.rot rc hs w b g i d := by
  rw [Spec.rot, ← rope_eq, qkvAt, dif_neg (by omega), H.cosines, H.sines,
    hw ⟨g.val * 128 + d.val, by omega⟩ n (by simp only; omega)]
  have hm : (n.val - 2048) % 128 = d.val := by omega
  have hi : (⟨(b.val * 2048 + i.val) % 2048, by omega⟩ : Fin 2048) = i := Fin.ext (by simp only; omega)
  by_cases h : d.val < 64
  · simp only [hm, hi, h, show n.val % 128 < 64 by omega, dif_pos]
    rw [hw ⟨g.val * 128 + (d.val + 64), by omega⟩ ⟨n.val + 64, by omega⟩ (by simp only; omega)]
  · simp only [hm, hi, h, show ¬ n.val % 128 < 64 by omega, dif_neg, not_false_eq_true]
    rw [hw ⟨g.val * 128 + (d.val - 64), by omega⟩ ⟨n.val - 64, by omega⟩ (by simp only; omega)]

/-- The attention array's row `i` of batch `b`, in the arguments. -/
theorem attention (H : Prepared rc hs wq wk wv X W A B) (b : Fin 2) (i : Fin 2048) (c : Fin 2048) :
    Region1.attnAt (qkv X W A B) ⟨b.val * 2048 + i.val, by omega⟩ c = Spec.attnAt rc hs wq wk wv b i c := by
  have hrow : ∀ j : Fin 2048, (⟨(b.val * 2048 + i.val) / 2048 * 2048 + j.val, by omega⟩ : Fin 4096)
      = ⟨b.val * 2048 + j.val, by omega⟩ := fun j => Fin.ext (by simp only; omega)
  have hcol : (b.val * 2048 + i.val) % 2048 = i.val := by omega
  have hq : ∀ e : Fin 128, qkv X W A B (ix2 ⟨b.val * 2048 + i.val, by omega⟩ ⟨c.val / 128 * 128 + e.val, by omega⟩)
      = Spec.proj hs wq b i ⟨c.val / 128 * 128 + e.val, by omega⟩ * (((Real.sqrt 128)⁻¹ : ℝ) : EReal) := fun e =>
    (qkvAt_query X W A B ⟨b.val * 2048 + i.val, by omega⟩ ⟨c.val / 128 * 128 + e.val, by omega⟩
      (show c.val / 128 * 128 + e.val < 2048 by omega)).trans
      (congrArg (· * _) (dot_query H b i ⟨c.val / 128 * 128 + e.val, by omega⟩))
  have hk : ∀ (j : Fin 2048) (e : Fin 128), qkv X W A B (ix2 ⟨b.val * 2048 + j.val, by omega⟩
      ⟨2048 + c.val / 512 * 128 + e.val, by omega⟩) = Spec.rot rc hs wk b ⟨c.val / 512, by omega⟩ j e := fun j e =>
    rotated H wk 2048 (Or.inl rfl) b j (dot_key H b j) ⟨c.val / 512, by omega⟩ e _ rfl
  have hv : ∀ j : Fin 2048, qkv X W A B (ix2 ⟨b.val * 2048 + j.val, by omega⟩
      ⟨2560 + c.val / 512 * 128 + c.val % 128, by omega⟩)
        = Spec.rot rc hs wv b ⟨c.val / 512, by omega⟩ j ⟨c.val % 128, by omega⟩ := fun j =>
    rotated H wv 2560 (Or.inr rfl) b j (dot_value H b j) ⟨c.val / 512, by omega⟩ ⟨c.val % 128, by omega⟩ _ rfl
  simp only [Region1.attnAt, Spec.attnAt, hrow, hcol, hq, hk, hv]

/-- The last product's row `i` of batch `b`, in the arguments. -/
theorem product {rc : FVec Ideal ⟨2, ![2048, 128]⟩ .f32} {hs : FVec Ideal ⟨3, ![2, 2048, 2048]⟩ .f32}
    {wq wo : FVec Ideal ⟨2, ![2048, 2048]⟩ .f32} {wk wv : FVec Ideal ⟨2, ![512, 2048]⟩ .f32}
    (P : FVec Ideal S4096x2048 .bf16) (U : FVec Ideal S2048x2048 .bf16) (b : Fin 2) (i n : Fin 2048)
    (hP : ∀ j : Fin 2048, P (ix2 ⟨b.val * 2048 + i.val, by omega⟩ j) = Spec.attnAt rc hs wq wk wv b i j)
    (hU : ∀ j : Fin 2048, U (ix2 j n) = wo (ix2 n j)) :
    Region2.prod P U (ix2 (n0 := 4096) (n1 := 2048) ⟨b.val * 2048 + i.val, by omega⟩ n)
      = Spec.resultAt rc hs wq wk wv wo b i n := by
  show dot P U ⟨b.val * 2048 + i.val, by omega⟩ n = _
  unfold dot Spec.resultAt
  exact Finset.sum_congr rfl fun j _ => congrArg₂ (fun p q : EReal => p * q) (hP j) (hU j)

end Cert.KernelIdeal.KerMath

end
-- ==== Proof.KerHost.lean ====
/- The arrays the kernel's host code prepares, at an index: the hidden states' rows, the weights side by side, the
   doubled cosines and the signed sines. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.KerHost

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The rope cache. -/
abbrev rc : FVec Ideal ⟨2, ![2048, 128]⟩ .f32 := m ((c : Thread nD τ).loc main_arg1)
/-- The hidden states. -/
abbrev hs : FVec Ideal ⟨3, ![2, 2048, 2048]⟩ .f32 := m ((c : Thread nD τ).loc main_arg3)
/-- The query weights. -/
abbrev wq : FVec Ideal ⟨2, ![2048, 2048]⟩ .f32 := m ((c : Thread nD τ).loc main_arg4)
/-- The key weights. -/
abbrev wk : FVec Ideal ⟨2, ![512, 2048]⟩ .f32 := m ((c : Thread nD τ).loc main_arg5)
/-- The value weights. -/
abbrev wv : FVec Ideal ⟨2, ![512, 2048]⟩ .f32 := m ((c : Thread nD τ).loc main_arg6)
/-- The output weights. -/
abbrev wo : FVec Ideal ⟨2, ![2048, 2048]⟩ .f32 := m ((c : Thread nD τ).loc main_arg7)

/-- Row `r` of the flattened hidden states is row `r % 2048` of batch `r / 2048`. -/
theorem hidden (r : Fin 4096) (j : Fin 2048) :
    W1 m ρ c (Proc.devRef .tc main_v1) (ix2 (n0 := 4096) (n1 := 2048) r j)
      = hs m c (ix3 ⟨r.val / 2048, by omega⟩ ⟨r.val % 2048, by omega⟩ j) := by
  unfold W1
  after_results
  pointwise

/-- Column `n` of the weights side by side. -/
theorem weights (j : Fin 2048) (n : Fin 3072) :
    W1 m ρ c (Proc.devRef .tc main_v4) (ix2 (n0 := 2048) (n1 := 3072) j n)
      = if h : n.val < 2048 then wq m c (ix2 ⟨n.val, h⟩ j)
        else if h' : n.val < 2560 then wk m c (ix2 ⟨n.val - 2048, by omega⟩ j)
        else wv m c (ix2 ⟨n.val - 2560, by omega⟩ j) := by
  unfold W1
  after_results
  pointwise
  simp (disch := decide) only [StableHlo.unary_result_ne', StableHlo.reshape_result_ne']
  by_cases h : n.val < 2048
  · rw [dif_pos h, dif_pos h]
  · rw [dif_neg h, dif_neg h]
    by_cases h' : n.val < 2560
    · rw [dif_pos (by omega), dif_pos h']
    · rw [dif_neg (by omega), dif_neg h']
      refine congrArg (fun q : Fin 512 => wv m c (ix2 q j)) (Fin.ext ?_)
      show n.val - 2048 - 512 = n.val - 2560
      omega

/-- The doubled cosines. -/
theorem cosines (i : Fin 2048) (s : Fin 1024) :
    W1 m ρ c (Proc.devRef .tc main_v10) (ix2 (n0 := 2048) (n1 := 1024) i s)
      = if h : s.val % 128 < 64 then rc m c (ix2 i ⟨s.val % 128, by omega⟩)
        else rc m c (ix2 i ⟨s.val % 128 - 64, by omega⟩) := by
  unfold W1
  after_results
  pointwise

/-- The signed sines. -/
theorem sines (i : Fin 2048) (s : Fin 1024) :
    W1 m ρ c (Proc.devRef .tc main_v15) (ix2 (n0 := 2048) (n1 := 1024) i s)
      = if h : s.val % 128 < 64 then -rc m c (ix2 i ⟨s.val % 128 + 64, by omega⟩)
        else rc m c (ix2 i ⟨s.val % 128, by omega⟩) := by
  unfold W1
  after_results
  pointwise
  by_cases h : s.val % 128 < 64
  · rw [dif_pos h, dif_pos h]
    refine congrArg (fun q : Fin 128 => -rc m c (ix2 i q)) (Fin.ext ?_)
    show 64 + s.val % 128 = s.val % 128 + 64
    omega
  · rw [dif_neg h, dif_neg h]
    refine congrArg (fun q : Fin 128 => rc m c (ix2 i q)) (Fin.ext ?_)
    show 64 + (s.val % 128 - 64) = s.val % 128
    omega

/-- The output weights, transposed. -/
theorem outW (j n : Fin 2048) :
    W4 m ρ c (Proc.devRef .tc main_v19) (ix2 (n0 := 2048) (n1 := 2048) j n) = wo m c (ix2 n j) := by
  unfold W4
  after_results
  pointwise
  exact congrFun (W3_args m ρ c main_arg7 (by decide)) (ix2 n j)

/-- The result's row `i` of batch `b` is row `b * 2048 + i` of the last product. -/
theorem result (b : Fin 2) (i n : Fin 2048) :
    W6 m ρ c (Proc.devRef .tc main_v21) (ix3 (n0 := 2) (n1 := 2048) (n2 := 2048) b i n)
      = W5 m ρ c (Proc.devRef .tc main_v20) (ix2 (n0 := 4096) (n1 := 2048) ⟨b.val * 2048 + i.val, by omega⟩ n) := by
  unfold W6
  after_results
  pointwise

end Cert.KernelIdeal.KerHost

end
-- ==== Proof.KerValue.lean ====
/- What the kernel's result holds: the result of the arguments, entry by entry. -/
module

public import proofs.«01_k».proof.Proof.KerMath
public import proofs.«01_k».proof.Proof.KerHost
public import proofs.«01_k».proof.Proof.Region2

@[expose] public section

set_option maxRecDepth 16384

noncomputable section

namespace Cert.KernelIdeal.KerValue

open Idealize.ShloMosaic Idealize.ShloMosaic.TcCoe Idealize.SL.Sem Cert.KernelIdeal Cert.KernelIdeal.Gen
open Cert.KernelIdeal.KerHost Cert.KernelIdeal.KerMath

variable (m : (ℓ : Loc nD τ sig) → Buf (Elt Ideal) ℓ) (ρ : Dev nD → PrngReg) (c : Dev nD)

/-- The arrays the host code prepares, at the arguments. -/
theorem prepared : Prepared (rc m c) (hs m c) (wq m c) (wk m c) (wv m c) (V1 m ρ c main_v1) (V1 m ρ c main_v4)
    (V1 m ρ c main_v10) (V1 m ρ c main_v15) :=
  ⟨hidden m ρ c, weights m ρ c, cosines m ρ c, sines m ρ c⟩

/-- The last kernel enters with the attention array. -/
theorem entered : V4 m ρ c main_v17 = Region1.attn (Region0.qkv (V1 m ρ c main_v1) (V1 m ρ c main_v4)
    (V1 m ρ c main_v10) (V1 m ρ c main_v15)) :=
  (W4_of m ρ c main_v17 (by decide)).trans ((W3_arr m ρ c 3).trans ((Region1.final (V2 m ρ) c).trans
    (congrArg Region1.attn ((W2_arr m ρ c 4).trans (Region0.final (V1 m ρ) c)))))

/-- One entry of the kernel's result. -/
theorem value (b : Fin 2) (i n : Fin 2048) :
    W6 m ρ c (Proc.devRef .tc main_v21) (ix3 (n0 := 2) (n1 := 2048) (n2 := 2048) b i n)
      = Spec.resultAt (rc m c) (hs m c) (wq m c) (wk m c) (wv m c) (wo m c) b i n := by
  refine (result m ρ c b i n).trans ((congrFun ((W5_arr m ρ c 2).trans (Region2.final (V4 m ρ) c)) _).trans ?_)
  exact product _ _ b i n (fun j => (congrFun (entered m ρ c) _).trans (attention (prepared m ρ c) b i j))
    (fun j => outW m ρ c j n)

end Cert.KernelIdeal.KerValue

end
-- ==== Proof.Whole.lean ====
/- The kernel's program from start to finish: it ends with every argument as launched and its result at what the
   last boundary of its segments holds. The set-up is that of the frame; only the post says more. -/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run ends, nothing faulting, with the result array at the last boundary's contents, every argument as
    launched and every semaphore at zero. -/
theorem run : θ_run defs (onTc (τ := τ) (main (F := F))) ⟨m, fun _ => 0, ρ⟩ (fun r => (∀ c : Dev nD,
      r.2.mem ((c.tc : Thread nD τ).loc main_v21) = W6 m ρ c (Proc.devRef .tc main_v21)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v21 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩), funext fun g => hz g (.inr (no_unscoped g.2))⟩)

end Cert.KernelIdeal.Whole

end
-- ==== Proof.RefRows.lean ====
/- The reference's rope rows and rotated keys and values, at an index. -/
module

public import proofs.«01_k».proof.Proof.Gen.ReferenceIdeal.Run
public import proofs.«01_k».proof.Proof.Spec
public import Idealize.ShloMosaic.Lib.Pipeline.ValueKit
public import Idealize.ShloMosaic.Lib.WordCmp
public import Idealize.ShloMosaic.Lib.Routing.OpsSet

@[expose] public section

set_option maxRecDepth 16384

noncomputable section

namespace Cert.ReferenceIdeal.RefRows

open Idealize.ShloMosaic Idealize.ShloMosaic.TcCoe Idealize.SL.Sem Cert.ReferenceIdeal Cert.ReferenceIdeal.Gen
open Cert.ReferenceIdeal.Value

variable (V : Valuation τ sig (Elt Ideal))

/-- The rope cache. -/
abbrev rc : FVec Ideal ⟨2, ![2048, 128]⟩ .f32 := V (Proc.devRef .tc main_arg1)
/-- The position offsets. -/
abbrev po : IVec ⟨1, ![2]⟩ 32 := V (Proc.devRef .tc main_arg2)
/-- The hidden states. -/
abbrev hs : FVec Ideal ⟨3, ![2, 2048, 2048]⟩ .f32 := V (Proc.devRef .tc main_arg3)
/-- The query weights. -/
abbrev wq : FVec Ideal ⟨2, ![2048, 2048]⟩ .f32 := V (Proc.devRef .tc main_arg4)
/-- The key weights. -/
abbrev wk : FVec Ideal ⟨2, ![512, 2048]⟩ .f32 := V (Proc.devRef .tc main_arg5)
/-- The value weights. -/
abbrev wv : FVec Ideal ⟨2, ![512, 2048]⟩ .f32 := V (Proc.devRef .tc main_arg6)
/-- The output weights. -/
abbrev wo : FVec Ideal ⟨2, ![2048, 2048]⟩ .f32 := V (Proc.devRef .tc main_arg7)

/-- The keys before the rotation. -/
theorem keys (b : Fin 2) (g : Fin 4) (i : Fin 2048) (d : Fin 128) :
    res_main_v7 (F := Ideal) V (ix4 (n0 := 2) (n1 := 4) (n2 := 2048) (n3 := 128) b g i d)
      = Spec.proj (hs V) (wk V) b i ⟨g.val * 128 + d.val, by omega⟩ := by
  pointwise [res_main_v7]
  rfl

/-- The values before the rotation. -/
theorem values (b : Fin 2) (g : Fin 4) (i : Fin 2048) (d : Fin 128) :
    res_main_v11 (F := Ideal) V (ix4 (n0 := 2) (n1 := 4) (n2 := 2048) (n3 := 128) b g i d)
      = Spec.proj (hs V) (wv V) b i ⟨g.val * 128 + d.val, by omega⟩ := by
  pointwise [res_main_v11]
  rfl

/-- With zero offsets a token's position is its place. -/
theorem position (h : ∀ b : Fin 2, po V (ix1 b) = 0#32) (x : S2x2048x1.Idx) :
    res_main_call0_v5 (F := Ideal) V x = BitVec.ofNat 32 (x 1).val := by
  obtain ⟨b, i, z, rfl⟩ : ∃ (b : Fin 2) (i : Fin 2048) (z : Fin 1), x = ix3 b i z := ⟨x 0, x 1, x 2, eq_ix3 x⟩
  pointwise [res_main_call0_v5, res_main_v17]
  have hw : IntOp.addi (V (Proc.devRef .tc main_arg2) (ix1 b)) (BitVec.ofNat 32 i.val) = BitVec.ofNat 32 i.val :=
    (congrArg (fun q : BitVec 32 => IntOp.addi q (BitVec.ofNat 32 i.val)) (h b)).trans (BitVec.zero_add _)
  simp only [hw]
  refine (congrArg (fun q => Scalar.select q _ _) (WordCmp.cmpi_slt_ofNat (w := 32) (a := i.val) (b := 0)
    (by norm_num; omega) (by norm_num))).trans ?_
  rw [WordCmp.select_decide, if_neg (by omega)]

/-- The gather of one row at a row number in range. -/
theorem gathered (x : S2048x128.Idx → EReal) (idx : IVec S2x2048x1 32) (b : Fin 2) (i : Fin 2048) (d : Fin 128)
    (h : idx (ix3 (n0 := 2) (n1 := 2048) (n2 := 1) b i 0) = BitVec.ofNat 32 i.val) :
    Host.gather gather_S2048x128_S2x2048x1_S2x2048x128_2_0_n_n_0_2_1128 x idx (ix3 (n0 := 2) (n1 := 2048) (n2 := 128) b i d)
      = x (ix2 (n0 := 2048) (n1 := 128) i d) := by
  refine congrArg x (funext fun a => Fin.ext ?_)
  match a with
  | ⟨0, _⟩ =>
    have e : (gather_S2048x128_S2x2048x1_S2x2048x128_2_0_n_n_0_2_1128.siIdx (ix3 (n0 := 2) (n1 := 2048) (n2 := 128) b i d)
        ⟨0, by decide⟩) = ix3 (n0 := 2) (n1 := 2048) (n2 := 1) b i 0 := by
      funext a
      match a with
      | ⟨0, _⟩ => rfl
      | ⟨1, _⟩ => rfl
      | ⟨2, _⟩ => rfl
    show min (idx (gather_S2048x128_S2x2048x1_S2x2048x128_2_0_n_n_0_2_1128.siIdx (ix3 (n0 := 2) (n1 := 2048) (n2 := 128) b i d)
        ⟨0, by decide⟩)).toInt.toNat (2048 - 1) + 0 + 0 = i.val
    rw [e, h, StableHlo.Predicate.toInt_ofNat_small _ (by omega)]
    have := i.isLt
    show min ((i.val : Int)).toNat (2048 - 1) + 0 + 0 = i.val
    omega
  | ⟨1, _⟩ =>
    show 0 + 0 + d.val = d.val
    omega

/-- The rope row. -/
theorem row (h : ∀ b : Fin 2, po V (ix1 b) = 0#32) (b : Fin 2) (i : Fin 2048) (d : Fin 128) :
    res_main_v18 (F := Ideal) V (ix3 (n0 := 2) (n1 := 2048) (n2 := 128) b i d) = rc V (ix2 i d) := by
  pointwise [res_main_v18]
  have hx : ∀ x : S2x2048x1.Idx, IntOp.andi (IntOp.cmpi .sge (res_main_call0_v5 (F := Ideal) V x) 0#32)
      (IntOp.cmpi .sle (res_main_call0_v5 (F := Ideal) V x) 2047#32) = 1#1 := fun x => by
    have hl : (x 1).val < 2048 := (x 1).isLt
    rw [position V h x]
    rw [(WordCmp.cmpi_sge_ofNat_eq_one_iff (w := 32) (a := (x 1).val) (b := 0) (by norm_num; omega) (by norm_num)).2 (by omega),
      (WordCmp.cmpi_sle_ofNat_eq_one_iff (w := 32) (a := (x 1).val) (b := 2047) (by norm_num; omega) (by norm_num)).2 (by omega)]
    rfl
  have hf : ∀ s : Finset S2x2048x1.Idx, s.fold IntOp.andi 1#1 (fun _ => 1#1) = 1#1 := fun s => by
    induction s using Finset.induction_on with
    | empty => rfl
    | insert a s ha ih => rw [Finset.fold_insert ha, ih]; rfl
  simp only [hx]
  exact (congrArg (fun q => Scalar.select q _ _) (hf _)).trans (gathered _ _ b i d (position V h _))

end Cert.ReferenceIdeal.RefRows

end
-- ==== Proof.RefCache.lean ====
/- The reference's cache after both halves are written: the rotated keys and the rotated values. -/
module

public import proofs.«01_k».proof.Proof.RefRows
public import Idealize.ShloMosaic.Lib.Routing.OpsPair

@[expose] public section

set_option maxRecDepth 16384

noncomputable section

namespace Cert.ReferenceIdeal.RefCache

open Idealize.ShloMosaic Idealize.ShloMosaic.TcCoe Idealize.SL.Sem Cert.ReferenceIdeal Cert.ReferenceIdeal.Gen
open Cert.ReferenceIdeal.Value Cert.ReferenceIdeal.RefRows

/-- Writing one half of the cache. -/
abbrev writeDims : ScatterDims S2x2x4x2048x128 S1 S2x4x2048x128 := scatter_S2x2x4x2048x128_S1_S2x4x2048x128_0123_0_0_0

/-- An update lands in the half that the index word names, at its own place. -/
theorem lands (idx : IVec S1 32) (k : S2x4x2048x128.Idx) (a b : Fin 2) (g : Fin 4) (i : Fin 2048) (d : Fin 128) :
    writeDims.resultIdx? k idx = some (ix5 (n0 := 2) (n1 := 2) (n2 := 4) (n3 := 2048) (n4 := 128) a b g i d)
      ↔ (idx (ix1 (n0 := 1) 0)).toInt = (a.val : Int) ∧ k = ix4 (n0 := 2) (n1 := 4) (n2 := 2048) (n3 := 128) b g i d := by
  obtain ⟨b', g', i', d', rfl⟩ : ∃ (b' : Fin 2) (g' : Fin 4) (i' : Fin 2048) (d' : Fin 128), k = ix4 b' g' i' d' :=
    ⟨k 0, k 1, k 2, k 3, eq_ix4 k⟩
  have e : writeDims.siIdx (ix4 (n0 := 2) (n1 := 4) (n2 := 2048) (n3 := 128) b' g' i' d') ⟨0, by decide⟩ = ix1 (n0 := 1) 0 := by
    funext z; match z with | ⟨0, _⟩ => rfl
  have s0 : writeDims.start (ix4 (n0 := 2) (n1 := 4) (n2 := 2048) (n3 := 128) b' g' i' d') idx 0 = (idx (ix1 (n0 := 1) 0)).toInt :=
    congrArg (fun q => (idx q).toInt) e
  rw [Routing.resultIdx?_eq_some]
  constructor
  · intro h
    have h0 := h 0
    have h1 : (0 : Int) + (b'.val : Int) = (b.val : Int) := h 1
    have h2 : (0 : Int) + (g'.val : Int) = (g.val : Int) := h 2
    have h3 : (0 : Int) + (i'.val : Int) = (i.val : Int) := h 3
    have h4 : (0 : Int) + (d'.val : Int) = (d.val : Int) := h 4
    rw [s0] at h0
    refine ⟨(add_zero _).symm.trans h0, ?_⟩
    rw [show b' = b from Fin.ext (by omega), show g' = g from Fin.ext (by omega), show i' = i from Fin.ext (by omega),
      show d' = d from Fin.ext (by omega)]
  · rintro ⟨h, hk⟩ z
    have k0 : b' = b := congrFun hk 0
    have k1 : g' = g := congrFun hk 1
    have k2 : i' = i := congrFun hk 2
    have k3 : d' = d := congrFun hk 3
    subst k0 k1 k2 k3
    match z with
    | ⟨0, _⟩ => exact (congrArg (· + (0 : Int)) s0).trans ((add_zero _).trans h)
    | ⟨1, _⟩ => exact zero_add _
    | ⟨2, _⟩ => exact zero_add _
    | ⟨3, _⟩ => exact zero_add _
    | ⟨4, _⟩ => exact zero_add _

/-- Writing half `a` replaces that half. -/
theorem write_same (x : S2x2x4x2048x128.Idx → EReal) (idx : IVec S1 32) (u : S2x4x2048x128.Idx → EReal) (a b : Fin 2) (g : Fin 4)
    (i : Fin 2048) (d : Fin 128) (h : (idx (ix1 (n0 := 1) 0)).toInt = (a.val : Int)) :
    Host.scatter writeDims (fun _ b => b) x idx u (ix5 (n0 := 2) (n1 := 2) (n2 := 4) (n3 := 2048) (n4 := 128) a b g i d)
      = u (ix4 (n0 := 2) (n1 := 4) (n2 := 2048) (n3 := 128) b g i d) :=
  Routing.scatter_set_hit writeDims x idx u _ _ (fun k hk => congrArg u ((lands idx k a b g i d).1 hk).2) _
    ((lands idx _ a b g i d).2 ⟨h, rfl⟩)

/-- Writing another half leaves half `a`. -/
theorem write_other (x : S2x2x4x2048x128.Idx → EReal) (idx : IVec S1 32) (u : S2x4x2048x128.Idx → EReal) (a b : Fin 2) (g : Fin 4)
    (i : Fin 2048) (d : Fin 128) (h : (idx (ix1 (n0 := 1) 0)).toInt ≠ (a.val : Int)) :
    Host.scatter writeDims (fun _ b => b) x idx u (ix5 (n0 := 2) (n1 := 2) (n2 := 4) (n3 := 2048) (n4 := 128) a b g i d)
      = x (ix5 (n0 := 2) (n1 := 2) (n2 := 4) (n3 := 2048) (n4 := 128) a b g i d) :=
  Routing.scatter_set_miss writeDims x idx u _ fun k hk => h ((lands idx k a b g i d).1 hk).1

/-- The rotation of two halves `x` and `y` of every head by cosines `c` and sines `s`. -/
def turn (x y : FVec Ideal S2x4x2048x64 .f32) (c s : FVec Ideal S2x1x2048x64 .f32) : FVec Ideal S2x4x2048x128 .f32 :=
  concatenate S2x4x2048x128 3
    [⟨S2x4x2048x64, subf (mulf x (broadcastInDim S2x4x2048x64 ![0, 1, 2, 3] bcast_S2x1x2048x64_S2x4x2048x64_0_1_2_3 c))
        (mulf y (broadcastInDim S2x4x2048x64 ![0, 1, 2, 3] bcast_S2x1x2048x64_S2x4x2048x64_0_1_2_3 s))⟩,
      ⟨S2x4x2048x64, addf (mulf x (broadcastInDim S2x4x2048x64 ![0, 1, 2, 3] bcast_S2x1x2048x64_S2x4x2048x64_0_1_2_3 s))
        (mulf y (broadcastInDim S2x4x2048x64 ![0, 1, 2, 3] bcast_S2x1x2048x64_S2x4x2048x64_0_1_2_3 c))⟩]
    concatenates_S2x4x2048x64_S2x4x2048x64_S2x4x2048x128_d3

/-- The rotation at an index. -/
theorem turn_apply (x y : FVec Ideal S2x4x2048x64 .f32) (c s : FVec Ideal S2x1x2048x64 .f32) (b : Fin 2) (g : Fin 4)
    (i : Fin 2048) (d : Fin 128) : turn x y c s (ix4 (n0 := 2) (n1 := 4) (n2 := 2048) (n3 := 128) b g i d)
      = if h : d.val < 64 then x (ix4 b g i ⟨d.val, h⟩) * c (ix4 b 0 i ⟨d.val, h⟩) - y (ix4 b g i ⟨d.val, h⟩) * s (ix4 b 0 i ⟨d.val, h⟩)
        else x (ix4 b g i ⟨d.val - 64, by omega⟩) * s (ix4 b 0 i ⟨d.val - 64, by omega⟩)
          + y (ix4 b g i ⟨d.val - 64, by omega⟩) * c (ix4 b 0 i ⟨d.val - 64, by omega⟩) := by
  pointwise [turn]

/-- The rotation of projected heads by the rope rows. -/
theorem turned (rc : FVec Ideal ⟨2, ![2048, 128]⟩ .f32) (hs : FVec Ideal ⟨3, ![2, 2048, 2048]⟩ .f32)
    (w : FVec Ideal ⟨2, ![512, 2048]⟩ .f32)
    (x y : FVec Ideal S2x4x2048x64 .f32) (c s : FVec Ideal S2x1x2048x64 .f32) (b : Fin 2) (g : Fin 4) (i : Fin 2048)
    (hx : ∀ d : Fin 64, x (ix4 b g i d) = Spec.proj hs w b i ⟨g.val * 128 + d.val, by omega⟩)
    (hy : ∀ d : Fin 64, y (ix4 b g i d) = Spec.proj hs w b i ⟨g.val * 128 + (64 + d.val), by omega⟩)
    (hc : ∀ d : Fin 64, c (ix4 b 0 i d) = rc (ix2 i ⟨d.val, by omega⟩))
    (hsn : ∀ d : Fin 64, s (ix4 b 0 i d) = rc (ix2 i ⟨64 + d.val, by omega⟩)) (d : Fin 128) :
    turn x y c s (ix4 (n0 := 2) (n1 := 4) (n2 := 2048) (n3 := 128) b g i d) = Spec.rot rc hs w b g i d := by
  rw [turn_apply, Spec.rot, Model.rope]
  by_cases h : d.val < 64
  · rw [dif_pos h, dif_pos h, hx, hy, hc, hsn]
    simp only [Nat.add_comm 64 d.val]
  · rw [dif_neg h, dif_neg h, hx, hy, hc, hsn]
    simp only [show 64 + (d.val - 64) = d.val by omega]

variable (V : Valuation τ sig (Elt Ideal))

/-- The cache: the given one with both halves written. -/
theorem cache_eq : res_main_v63 (F := Ideal) V
    = Host.scatter writeDims (fun _ b => b)
        (Host.scatter writeDims (fun _ b => b) (V (Proc.devRef .tc main_arg0)) (broadcastInDim S1 ![] bcast_S_S1 (constantI S_ 32 0#32))
          (turn (res_main_v23 V) (res_main_v24 V) (res_main_v20 V) (res_main_v22 V)))
        (broadcastInDim S1 ![] bcast_S_S1 (constantI S_ 32 1#32))
        (turn (res_main_v47 V) (res_main_v48 V) (res_main_v44 V) (res_main_v46 V)) := rfl

/-- The cosines, one row a position. -/
theorem cosines (h : ∀ b : Fin 2, po V (ix1 b) = 0#32) (b : Fin 2) (i : Fin 2048) (d : Fin 64) :
    res_main_v20 (F := Ideal) V (ix4 (n0 := 2) (n1 := 1) (n2 := 2048) (n3 := 64) b 0 i d) = rc V (ix2 i ⟨d.val, by omega⟩) := by
  refine Eq.trans ?_ (row V h b i ⟨d.val, by omega⟩)
  pointwise [res_main_v20]

/-- The sines, one row a position. -/
theorem sines (h : ∀ b : Fin 2, po V (ix1 b) = 0#32) (b : Fin 2) (i : Fin 2048) (d : Fin 64) :
    res_main_v22 (F := Ideal) V (ix4 (n0 := 2) (n1 := 1) (n2 := 2048) (n3 := 64) b 0 i d) = rc V (ix2 i ⟨64 + d.val, by omega⟩) := by
  refine Eq.trans ?_ (row V h b i ⟨64 + d.val, by omega⟩)
  pointwise [res_main_v22]

/-- The cache's first half holds the rotated keys. -/
theorem cache_keys (h : ∀ b : Fin 2, po V (ix1 b) = 0#32) (b : Fin 2) (g : Fin 4) (i : Fin 2048) (d : Fin 128) :
    res_main_v63 (F := Ideal) V (ix5 (n0 := 2) (n1 := 2) (n2 := 4) (n3 := 2048) (n4 := 128) 0 b g i d)
      = Spec.rot (rc V) (hs V) (wk V) b g i d := by
  refine (congrFun (cache_eq V) _).trans ((write_other _ _ _ 0 b g i d (by decide)).trans
    ((write_same _ _ _ 0 b g i d (by decide)).trans ?_))
  exact turned (rc V) (hs V) (wk V) _ _ _ _ b g i
    (fun d => Eq.trans (by pointwise [res_main_v23]) (keys V b g i ⟨d.val, by omega⟩))
    (fun d => Eq.trans (by pointwise [res_main_v24]) (keys V b g i ⟨64 + d.val, by omega⟩))
    (cosines V h b i) (sines V h b i) d

/-- The cache's second half holds the rotated values. -/
theorem cache_values (h : ∀ b : Fin 2, po V (ix1 b) = 0#32) (b : Fin 2) (g : Fin 4) (i : Fin 2048) (d : Fin 128) :
    res_main_v63 (F := Ideal) V (ix5 (n0 := 2) (n1 := 2) (n2 := 4) (n3 := 2048) (n4 := 128) 1 b g i d)
      = Spec.rot (rc V) (hs V) (wv V) b g i d := by
  refine (congrFun (cache_eq V) _).trans ((write_same _ _ _ 1 b g i d (by decide)).trans ?_)
  exact turned (rc V) (hs V) (wv V) _ _ _ _ b g i
    (fun d => Eq.trans (by pointwise [res_main_v47]) (values V b g i ⟨d.val, by omega⟩))
    (fun d => Eq.trans (by pointwise [res_main_v48]) (values V b g i ⟨64 + d.val, by omega⟩))
    (cosines V h b i) (sines V h b i) d

end Cert.ReferenceIdeal.RefCache

end
-- ==== Proof.RefMath.lean ====
/- The reference's softmax, average and output product on plain arrays, at an index. -/
module

public import proofs.«01_k».proof.Proof.RefRows
public import proofs.«01_k».proof.Proof.Consts

@[expose] public section

set_option maxRecDepth 16384

noncomputable section

namespace Cert.ReferenceIdeal.RefMath

open Idealize.ShloMosaic Idealize.ShloMosaic.TcCoe Idealize.SL.Sem Cert.ReferenceIdeal Cert.ReferenceIdeal.Gen
open Cert.Model

/-- The reference's select between a score and minus infinity, on the positions `i` and `j`. -/
theorem pick (i j : Fin 2048) (a c : EReal) :
    Scalar.select (Scalar.select (IntOp.cmpi .sge (IntOp.addi (BitVec.ofNat 32 i.val) 0#32) (BitVec.ofNat 32 j.val)) 1#1 0#1) a c
      = if j.val ≤ i.val then a else c := by
  have hm : IntOp.cmpi .sge (IntOp.addi (BitVec.ofNat 32 i.val) 0#32) (BitVec.ofNat 32 j.val)
      = BitVec.ofBool (decide (j.val ≤ i.val)) :=
    (congrArg (fun q => IntOp.cmpi .sge q (BitVec.ofNat 32 j.val)) (BitVec.add_zero (BitVec.ofNat 32 i.val))).trans
      (WordCmp.cmpi_sge_ofNat (w := 32) (by norm_num; omega) (by norm_num; omega))
  rw [hm]
  by_cases h : j.val ≤ i.val
  · rw [decide_eq_true h, if_pos h]; rfl
  · rw [decide_eq_false h, if_neg h]; rfl

/-- The square root of the word for 128. -/
theorem root : Ideal.sqrt (Ideal.ofBits FTy.f32 0x43000000#32) = ((Real.sqrt 128 : ℝ) : EReal) := by
  rw [Consts.f128, Ideal.sqrt_coe, if_neg (by norm_num)]

/-- Each row's greatest entry. -/
def tops (x : FVec Ideal S2x16x2048x2048 .f32) : FVec Ideal S2x16x2048 .f32 :=
  Host.reduce FloatOps.maximumf x (constant S_ .f32 0xFF800000#32) reducesTo_S2x16x2048x2048_S2x16x2048_d3 h_S_

/-- A row's greatest entry, as a fold along the row. -/
theorem tops_apply (x : FVec Ideal S2x16x2048x2048 .f32) (b : Fin 2) (h : Fin 16) (i : Fin 2048) :
    tops x (ix3 b h i) = top fun j => x (ix4 b h i j) := by
  have hr : Shape.Reduces S2x16x2048x2048 [3] S2x16x2048 := by decide
  have hl : (x ∘ hr.lift (ix3 b h i)) = fun j : Fin 2048 => x (ix4 b h i j) := by
    funext j
    refine congrArg x (funext fun c => ?_)
    match c with
    | ⟨0, _⟩ => rfl
    | ⟨1, _⟩ => rfl
    | ⟨2, _⟩ => rfl
    | ⟨3, _⟩ => rfl
  have e := Host.reduce_eq_fold_single (FloatOps.maximumf (F := Ideal) (φ := .f32)) x (constant S_ .f32 0xFF800000#32)
    reducesTo_S2x16x2048x2048_S2x16x2048_d3 hr h_S_ (ix3 b h i)
  rw [hl] at e
  refine e.trans ?_
  have hn : (constant (F := Ideal) S_ FTy.f32 0xFF800000#32 (Shape.Idx.first h_S_) : EReal) = ⊥ := Consts.negInf
  rw [hn]
  rfl

/-- The exponentials of `x` less the values `m` of its rows. -/
def shifted (x : FVec Ideal S2x16x2048x2048 .f32) (m : FVec Ideal S2x16x2048 .f32) : FVec Ideal S2x16x2048x2048 .f32 :=
  Host.exp (subf x (broadcastInDim S2x16x2048x2048 ![0, 1, 2, 3] bcast_S2x16x2048x1_S2x16x2048x2048_0_1_2_3
    (broadcastInDim S2x16x2048x1 ![0, 1, 2] bcast_S2x16x2048_S2x16x2048x1_0_1_2
      (maximumf (broadcastInDim S2x16x2048 ![] bcast_S_S2x16x2048 (constant S_ .f32 0xFF800000#32)) m))))

/-- The shifted exponentials at an index. -/
theorem shifted_apply (x : FVec Ideal S2x16x2048x2048 .f32) (m : FVec Ideal S2x16x2048 .f32)
    (b : Fin 2) (h : Fin 16) (i j : Fin 2048) :
    shifted x m (ix4 b h i j) = Ideal.exp (x (ix4 b h i j) - m (ix3 b h i)) := by
  pointwise [shifted]
  rw [Consts.negInf, max_eq_right bot_le]

/-- The softmax's numerators at an index. -/
theorem exps_apply (x : FVec Ideal S2x16x2048x2048 .f32) (b : Fin 2) (h : Fin 16) (i j : Fin 2048) :
    shifted x (tops x) (ix4 b h i j) = wt (fun j => x (ix4 b h i j)) j := by
  rw [shifted_apply, tops_apply]
  rfl

/-- The values' average under the exponentials `x`, from the cache `y`. -/
def average (x : FVec Ideal S2x16x2048x2048 .f32) (y : FVec Ideal S2x2x4x2048x128 .f32) : FVec Ideal S2x2048x2048 .f32 :=
  shapeCast _ (transpose S2x2048x16x128 [0, 2, 1, 3]
    (Host.dotGeneral dot_S2x16x2048x2048_S2x16x2048x128_S2x16x2048x128_3_2_2_3_01_01 none
      (Host.divf x (broadcastInDim S2x16x2048x2048 ![0, 1, 2, 3] bcast_S2x16x2048x1_S2x16x2048x2048_0_1_2_3
        (broadcastInDim S2x16x2048x1 ![0, 1, 2] bcast_S2x16x2048_S2x16x2048x1_0_1_2
          (Host.reduceAdd x (constant S_ .f32 0x00000000#32) reducesTo_S2x16x2048x2048_S2x16x2048_d3 h_S_))))
      (shapeCast _ (broadcastInDim S2x4x4x2048x128 ![0, 1, 3, 4] bcast_S2x4x2048x128_S2x4x4x2048x128_0_1_3_4
        (shapeCast _ (extractStridedSlice S1x2x4x2048x128 ![1, 0, 0, 0, 0] y slices_S2x2x4x2048x128_S1x2x4x2048x128_1_0_0_0_0)
          shapeCasts_S1x2x4x2048x128_S2x4x2048x128)) shapeCasts_S2x4x4x2048x128_S2x16x2048x128))
    transposes_S2x16x2048x128_S2x2048x16x128_0_2_1_3) shapeCasts_S2x2048x16x128_S2x2048x2048

/-- The average at an index. -/
theorem average_apply (x : FVec Ideal S2x16x2048x2048 .f32) (y : FVec Ideal S2x2x4x2048x128 .f32) (b : Fin 2) (i c : Fin 2048) :
    average x y (ix3 b i c) = ∑ j : Fin 2048,
      Ideal.div (x (ix4 b ⟨c.val / 128, by omega⟩ i j)) (∑ j : Fin 2048, x (ix4 b ⟨c.val / 128, by omega⟩ i j))
        * y (ix5 1 b ⟨c.val / 512, by omega⟩ j ⟨c.val % 128, by omega⟩) := by
  have hc : c.val / 128 / 4 = c.val / 512 := by omega
  pointwise [average]
  simp only [hc]

/-- The output product. -/
def output (z : FVec Ideal S2x2048x2048 .f32) (w : FVec Ideal S2048x2048 .f32) : FVec Ideal S2x2048x2048 .f32 :=
  Host.dotGeneral dot_S2x2048x2048_S2048x2048_S2x2048x2048_2_0_01_1_n_n none z
    (transpose S2048x2048 [1, 0] w transposes_S2048x2048_S2048x2048_1_0)

/-- The output product at an index. -/
theorem output_apply (z : FVec Ideal S2x2048x2048 .f32) (w : FVec Ideal S2048x2048 .f32) (b : Fin 2) (i n : Fin 2048) :
    output z w (ix3 b i n) = ∑ c : Fin 2048, z (ix3 b i c) * w (ix2 n c) := by
  pointwise [output]

/-- The average under a softmax's numerators, from the rows of scores `s` with a real greatest entry. -/
theorem average_exps (x : FVec Ideal S2x16x2048x2048 .f32) (y : FVec Ideal S2x2x4x2048x128 .f32) (b : Fin 2) (i c : Fin 2048)
    (s v : Fin 2048 → EReal) (hs : ∀ j, x (ix4 b ⟨c.val / 128, by omega⟩ i j) = s j)
    (hv : ∀ j, y (ix5 1 b ⟨c.val / 512, by omega⟩ j ⟨c.val % 128, by omega⟩) = v j) {M : ℝ} (hM : top s = (M : EReal)) :
    average (shifted x (tops x)) y (ix3 b i c) = att s v := by
  have hs' : (fun j => x (ix4 b ⟨c.val / 128, by omega⟩ i j)) = s := funext hs
  rw [average_apply]
  simp only [exps_apply, hs', hv]
  exact sum_div_wt s v hM

/-- The result from masked scores `x`, a cache `y` and output weights `w`. -/
def chain (x : FVec Ideal S2x16x2048x2048 .f32) (y : FVec Ideal S2x2x4x2048x128 .f32) (w : FVec Ideal S2048x2048 .f32) :
    FVec Ideal S2x2048x2048 .f32 :=
  output (average (shifted x (tops x)) y) w

end Cert.ReferenceIdeal.RefMath

end
-- ==== Proof.RefAttn.lean ====
/- The reference's masked scores, its exponentials and its result, at an index. -/
module

public import proofs.«01_k».proof.Proof.RefCache
public import proofs.«01_k».proof.Proof.RefMath

@[expose] public section

set_option maxRecDepth 16384

noncomputable section

namespace Cert.ReferenceIdeal.RefAttn

open Idealize.ShloMosaic Idealize.ShloMosaic.TcCoe Idealize.SL.Sem Cert.ReferenceIdeal Cert.ReferenceIdeal.Gen
open Cert.ReferenceIdeal.Value Cert.ReferenceIdeal.RefRows Cert.ReferenceIdeal.RefCache
open Cert.ReferenceIdeal.RefMath Cert.Model

variable (V : Valuation τ sig (Elt Ideal))

/-- A query against a key, divided by the square root of the head's width. -/
def score (b : Fin 2) (h : Fin 16) (i j : Fin 2048) : EReal :=
  Ideal.div (∑ e : Fin 128, Spec.proj (hs V) (wq V) b i ⟨h.val * 128 + e.val, by omega⟩
    * Spec.rot (rc V) (hs V) (wk V) b ⟨h.val / 4, by omega⟩ j e) ((Real.sqrt 128 : ℝ) : EReal)

/-- The masked scores. -/
theorem masked (h0 : ∀ b : Fin 2, po V (ix1 b) = 0#32) (b : Fin 2) (h : Fin 16) (i j : Fin 2048) :
    res_main_v79 (F := Ideal) V (ix4 (n0 := 2) (n1 := 16) (n2 := 2048) (n3 := 2048) b h i j) = causal i.val (score V b h i) j := by
  have hk : ∀ e : Fin 128, _ := fun e => cache_keys V h0 b ⟨h.val / 4, by omega⟩ j e
  pointwise [res_main_v79]
  refine (pick i j _ _).trans ?_
  rw [causal, score]
  refine if_congr Iff.rfl (congrArg₂ Ideal.div (Finset.sum_congr rfl fun e _ => congrArg (fun q : EReal => _ * q) (hk e)) root) Consts.negInf

end Cert.ReferenceIdeal.RefAttn

end
-- ==== Proof.RefValue.lean ====
/- The reference's result is the specification's, where the queries' and keys' factors are real numbers. -/
module

public import proofs.«01_k».proof.Proof.RefAttn

@[expose] public section

set_option maxRecDepth 16384

noncomputable section

namespace Cert.ReferenceIdeal.RefValue

open Idealize.ShloMosaic Idealize.ShloMosaic.TcCoe Idealize.SL.Sem Cert.ReferenceIdeal Cert.ReferenceIdeal.Gen
open Cert.ReferenceIdeal.Value Cert.ReferenceIdeal.RefRows Cert.ReferenceIdeal.RefCache Cert.ReferenceIdeal.RefAttn
open Cert.ReferenceIdeal.RefMath Cert.Model Idealize.ShloMosaic.StableHlo

/-- An extended real that is a real number. -/
def Finite (x : EReal) : Prop := ∃ r : ℝ, x = (r : EReal)

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.add {x y : EReal} (hx : Finite x) (hy : Finite y) : Finite (x + y) := by
  obtain ⟨a, rfl⟩ := hx; obtain ⟨b, rfl⟩ := hy; exact ⟨a + b, (EReal.coe_add a b).symm⟩

theorem Finite.sub {x y : EReal} (hx : Finite x) (hy : Finite y) : Finite (x - y) := by
  obtain ⟨a, rfl⟩ := hx; obtain ⟨b, rfl⟩ := hy; exact ⟨a - b, (EReal.coe_sub a b).symm⟩

theorem Finite.sum {ι : Type*} (t : Finset ι) (f : ι → EReal) (h : ∀ i, Finite (f i)) : Finite (∑ i ∈ t, f i) := by
  classical
  induction t using Finset.induction_on with
  | empty => exact ⟨0, by simp⟩
  | insert a t ha ih => rw [Finset.sum_insert ha]; exact (h a).add ih

theorem Finite.rope {y cs : Fin 128 → EReal} (hy : ∀ d, Finite (y d)) (hc : ∀ d, Finite (cs d)) (d : Fin 128) :
    Finite (rope y cs d) := by
  unfold Model.rope
  split
  · exact ((hy _).mul (hc _)).sub ((hy _).mul (hc _))
  · exact ((hy _).mul (hc _)).add ((hy _).mul (hc _))

variable (V : Valuation τ sig (Elt Ideal))

/-- The factors of the scores are real numbers. -/
structure Real : Prop where
  rc : ∀ i, Finite (rc V i)
  hs : ∀ i, Finite (hs V i)
  wq : ∀ i, Finite (wq V i)
  wk : ∀ i, Finite (wk V i)

/-- A head's column of the product is a column of the scores the specification states. -/
theorem score_eq (b : Fin 2) (c i j : Fin 2048) :
    score V b ⟨c.val / 128, by omega⟩ i j = ∑ e : Fin 128,
      Spec.proj (hs V) (wq V) b i ⟨c.val / 128 * 128 + e.val, by omega⟩ * (((Real.sqrt 128)⁻¹ : ℝ) : EReal)
        * Spec.rot (rc V) (hs V) (wk V) b ⟨c.val / 512, by omega⟩ j e := by
  have hc : c.val / 128 / 4 = c.val / 512 := by omega
  have h128 : Real.sqrt 128 ≠ 0 := by positivity
  rw [score, Ideal.div_coe h128, one_div, sum_mul_coe _ _ (by positivity)]
  refine Finset.sum_congr rfl fun e _ => ?_
  simp only [hc]
  rw [mul_right_comm]

/-- The scores are real numbers. -/
theorem score_finite (hV : Real V) (b : Fin 2) (h : Fin 16) (i j : Fin 2048) : Finite (score V b h i j) := by
  have h128 : Real.sqrt 128 ≠ 0 := by positivity
  have hp : ∀ {n : ℕ} (w : FVec Ideal ⟨2, ![n, 2048]⟩ .f32), (∀ i, Finite (w i)) → ∀ (i : Fin 2048) (c : Fin n),
      Finite (Spec.proj (RefRows.hs V) w b i c) :=
    fun w hw i c => Finite.sum _ _ fun j => (hV.hs _).mul (hw _)
  rw [score, Ideal.div_coe h128]
  exact (Finite.sum _ _ fun e => (hp _ hV.wq _ _).mul (Finite.rope (fun _ => hp _ hV.wk _ _) (fun _ => hV.rc _) _)).mul ⟨_, rfl⟩

/-- A row of masked scores has a real greatest entry, since its query sees itself. -/
theorem exists_row_top (hV : Real V) (b : Fin 2) (h : Fin 16) (i : Fin 2048) :
    ∃ M : ℝ, top (causal i.val (score V b h i)) = (M : EReal) := by
  refine exists_top _ i ?_ fun j => ?_
  · obtain ⟨r, hr⟩ := score_finite V hV b h i i
    rw [causal, if_pos le_rfl, hr]
    exact EReal.coe_ne_bot r
  · rw [causal]
    split
    · obtain ⟨r, hr⟩ := score_finite V hV b h i j
      rw [hr]
      exact EReal.coe_ne_top r
    · exact bot_ne_top

/-- The reference's result. -/
def result : FVec Ideal S2x2048x2048 .f32 :=
  chain (res_main_v79 (F := Ideal) V) (res_main_v63 (F := Ideal) V) (wo V)

/-- The softmax average the reference computes is the specification's. -/
theorem average_eq (h0 : ∀ b : Fin 2, po V (ix1 b) = 0#32) (hV : Real V) (b : Fin 2) (i c : Fin 2048) :
    average (shifted (res_main_v79 (F := Ideal) V) (tops (res_main_v79 (F := Ideal) V))) (res_main_v63 (F := Ideal) V) (ix3 b i c)
      = Spec.attnAt (rc V) (hs V) (wq V) (wk V) (wv V) b i c := by
  obtain ⟨M, hM⟩ := exists_row_top V hV b ⟨c.val / 128, by omega⟩ i
  refine (average_exps _ _ b i c _ _ (fun j => masked V h0 b ⟨c.val / 128, by omega⟩ i j)
    (fun j => cache_values V h0 b ⟨c.val / 512, by omega⟩ j ⟨c.val % 128, by omega⟩) hM).trans ?_
  exact congrArg (fun s => att (causal i.val s) _) (funext fun j => score_eq V b c i j)

/-- The reference's result at an index is the specification's. -/
theorem value (h0 : ∀ b : Fin 2, po V (ix1 b) = 0#32) (hV : Real V) (b : Fin 2) (i n : Fin 2048) :
    result V (ix3 b i n) = Spec.resultAt (rc V) (hs V) (wq V) (wk V) (wv V) (wo V) b i n := by
  refine (output_apply _ _ b i n).trans ?_
  exact Finset.sum_congr rfl fun c _ => congrArg (fun q : EReal => q * _) (average_eq V h0 hV b i c)

/-- Every run of the reference ends with `result` in its result array, its arguments as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run (F := Ideal) m ρ

end Cert.ReferenceIdeal.RefValue

end
-- ==== Proof.Pre.lean ====
/- What the precondition says: zero offsets, and real entries in the arrays the scores are computed from. -/
module

public import proofs.«01_k».proof.Proof.Gen.Pre_usual_inputs
public import proofs.«01_k».proof.Proof.Consts
public import Idealize.ShloMosaic.Lib.ReduceAll
public import Idealize.ShloMosaic.Lib.Pipeline.ValueKit

@[expose] public section

set_option maxRecDepth 16384

noncomputable section

namespace Cert.Pre_usual_inputs.Read

open Idealize.ShloMosaic Cert.Pre_usual_inputs Cert.Pre_usual_inputs.Gen Facts

instance : Subsingleton S_.Idx := ⟨fun _ _ => funext fun k => k.elim0⟩

/-- An entry whose absolute value is below plus infinity is a real number. -/
theorem real_of_abs (x : EReal) (h : Ideal.cmp .olt (max x (-x)) (Ideal.ofBits .f32 0x7F800000#32) = 1#1) :
    ∃ r : ℝ, x = (r : EReal) := by
  rw [Consts.posInf] at h
  have h' : max x (-x) < ⊤ := (Ideal.cmp_olt_eq_one _ _).1 h
  rw [max_lt_iff] at h'
  induction x using EReal.rec with
  | bot => simp at h'
  | coe r => exact ⟨r, rfl⟩
  | top => simp at h'

/-- The precondition, read at its arrays. -/
theorem read (a0 : FVec Ideal S2x2x4x2048x128 .f32) (a1 : FVec Ideal S2048x128 .f32) (a2 : IVec S2 32)
    (a3 : FVec Ideal S2x2048x2048 .f32) (a4 : FVec Ideal S2048x2048 .f32) (a5 a6 : FVec Ideal S512x2048 .f32)
    (a7 : FVec Ideal S2048x2048 .f32) (j : S_.Idx) (h : fn (F := Ideal) a0 a1 a2 a3 a4 a5 a6 a7 j = 1#1) :
    (∀ i, a2 i = 0#32) ∧ (∀ i, ∃ r : ℝ, (a1 i : EReal) = r) ∧ (∀ i, ∃ r : ℝ, (a3 i : EReal) = r)
      ∧ (∀ i, ∃ r : ℝ, (a4 i : EReal) = r) ∧ ∀ i, ∃ r : ℝ, (a5 i : EReal) = r := by
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h2, h1⟩ := IntOp.andi_eq_one.1 h
  exact ⟨fun i => IntOp.cmpi_eq.1 (Host.reduce_andi_all _ _ _ _ j h2 i),
    fun i => real_of_abs _ (Host.reduce_andi_all _ _ _ _ j h1 i), fun i => real_of_abs _ (Host.reduce_andi_all _ _ _ _ j h3 i),
    fun i => real_of_abs _ (Host.reduce_andi_all _ _ _ _ j h4 i), fun i => real_of_abs _ (Host.reduce_andi_all _ _ _ _ j h5 i)⟩

end Cert.Pre_usual_inputs.Read

end
-- ==== Proof.Algebraic.lean ====
/- The claim that the kernel and the reference end with the same result, and the reference's frame. -/
module

public import proofs.«01_k».proof.Defs
public import proofs.«01_k».proof.Proof.KerValue
public import proofs.«01_k».proof.Proof.Whole
public import proofs.«01_k».proof.Proof.RefValue
public import proofs.«01_k».proof.Proof.Pre

@[expose] public section

set_option maxRecDepth 16384

noncomputable section

namespace Cert.Algebraic

open Idealize.ShloMosaic Idealize.ShloMosaic.TcCoe Idealize.ShloMosaic.StableHlo Idealize.SL.Sem

/-- The reference's runs end with its arguments as launched and every semaphore at zero: it declares none. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, sem_eq_zero_of_no_sems (by decide) r.2⟩)
    (Cert.ReferenceIdeal.RefValue.run_result m ρ)

/-- On memories that agree on the arguments the two results are one array, where the precondition holds. -/
theorem results_eq (m : (ℓ : Loc Cert.KernelIdeal.nD Cert.KernelIdeal.τ Cert.KernelIdeal.sig) → Buf (Elt Ideal) ℓ) (g : Dev Cert.KernelIdeal.nD → PrngReg) (m' : (ℓ : Loc Cert.ReferenceIdeal.nD Cert.ReferenceIdeal.τ Cert.ReferenceIdeal.sig) → Buf (Elt Ideal) ℓ) (c : Dev Cert.KernelIdeal.nD)
    (hpre : Cert.Pre_KernelIdeal_usual_inputs m)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Cert.ReferenceIdeal.RefValue.result (launchContents m' c)
      = Cert.KernelIdeal.Gen.W6 m g c (Proc.devRef .tc Cert.KernelIdeal.main_v21) := by
  have e1 : Cert.ReferenceIdeal.RefRows.rc (launchContents m' c) = Cert.KernelIdeal.KerHost.rc m c := h1
  have e3 : Cert.ReferenceIdeal.RefRows.hs (launchContents m' c) = Cert.KernelIdeal.KerHost.hs m c := h3
  have e4 : Cert.ReferenceIdeal.RefRows.wq (launchContents m' c) = Cert.KernelIdeal.KerHost.wq m c := h4
  have e5 : Cert.ReferenceIdeal.RefRows.wk (launchContents m' c) = Cert.KernelIdeal.KerHost.wk m c := h5
  have e6 : Cert.ReferenceIdeal.RefRows.wv (launchContents m' c) = Cert.KernelIdeal.KerHost.wv m c := h6
  have e7 : Cert.ReferenceIdeal.RefRows.wo (launchContents m' c) = Cert.KernelIdeal.KerHost.wo m c := h7
  obtain ⟨p2, p1, p3, p4, p5⟩ := Cert.Pre_usual_inputs.Read.read _ _ _ _ _ _ _ _ (fun k => k.elim0) (congrFun (hpre c) fun k => k.elim0)
  have hV : Cert.ReferenceIdeal.RefValue.Real (launchContents m' c) :=
    ⟨fun i => e1 ▸ p1 i, fun i => e3 ▸ p3 i, fun i => e4 ▸ p4 i, fun i => e5 ▸ p5 i⟩
  have h0 : ∀ b : Fin 2, Cert.ReferenceIdeal.RefRows.po (launchContents m' c) (ix1 b) = 0#32 :=
    fun b => (congrFun h2 (ix1 b)).trans (p2 (ix1 b))
  funext y
  have ey : y = ix3 (n0 := 2) (n1 := 2048) (n2 := 2048) (y 0) (y 1) (y 2) := eq_ix3 y
  rw [ey]
  refine (Cert.ReferenceIdeal.RefValue.value _ h0 hV (y 0) (y 1) (y 2)).trans ?_
  rw [e1, e3, e4, e5, e6, e7]
  exact (Cert.KernelIdeal.KerValue.value m g c (y 0) (y 1) (y 2)).symm

/-- From memories that agree on the arguments, under the precondition, both programs end with one result. -/
theorem algebraic : Cert.algebraic_KernelIdeal_ReferenceIdeal_pre_usual_inputs := by
  intro m g m' g' hpre hag
  refine ⟨fun c => Cert.KernelIdeal.Gen.W6 m g c (Proc.devRef .tc Cert.KernelIdeal.main_v21),
    (θ_run Cert.KernelIdeal.defs _ _).mono (fun r h => h.1) (Cert.KernelIdeal.Whole.run m g),
    (θ_run Cert.ReferenceIdeal.defs _ _).mono (fun r h c => ⟨(h c).1.trans ?_, (h c).2⟩)
      (Cert.ReferenceIdeal.RefValue.run_result m' g')⟩
  obtain ⟨-, h1, h2, h3, h4, h5, h6, h7⟩ := hag c
  exact results_eq m g m' c hpre h1 h2 h3 h4 h5 h6 h7

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_usual_inputs
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_usual_inputs.Gen.facts,
  fun m ρ _ => Cert.Kernel.Gen.frame m ρ, fun m ρ _ => Cert.KernelIdeal.Gen.frame m ρ, fun m ρ _ => Cert.KernelIdeal.Gen.frame m ρ,
  fun m ρ _ => Cert.Algebraic.frame_reference m ρ, fun m ρ _ => Cert.Algebraic.frame_reference m ρ,
  Cert.Consts.preserves, Cert.Algebraic.algebraic⟩

end Cert.Proof

end
